-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x4096 : Shape := ⟨2, ![2048, 4096]⟩
abbrev S4096x8192 : Shape := ⟨2, ![4096, 8192]⟩
abbrev S_ : Shape := ⟨0, ![]⟩

class Facts : Prop where
  bcast_S_S2048x4096 : S_.BroadcastsInDim S2048x4096 (![] : Fin 0 → Fin S2048x4096.rank)
  bcast_S_S4096x8192 : S_.BroadcastsInDim S4096x8192 (![] : Fin 0 → Fin S4096x8192.rank)

variable [Facts]

def fn {F : FTy → Type} [FloatOps F] (main_arg0 : FVec F S2048x4096 .bf16) (main_arg1 : FVec F S4096x8192 .bf16) : IVec S2048x4096 1 × IVec S4096x8192 1 :=
  let main_v0 : FVec F S2048x4096 .bf16 := Host.absf main_arg0
  let main_cst : FVec F S_ .bf16 := constant S_ .bf16 0x7F80#16
  let main_v1 : FVec F S2048x4096 .bf16 := broadcastInDim S2048x4096 ![] bcast_S_S2048x4096 main_cst
  let main_v2 : IVec S2048x4096 1 := cmpf .olt main_v0 main_v1
  let main_v3 : FVec F S4096x8192 .bf16 := Host.absf main_arg1
  let main_cst_0 : FVec F S_ .bf16 := constant S_ .bf16 0x7F80#16
  let main_v4 : FVec F S4096x8192 .bf16 := broadcastInDim S4096x8192 ![] bcast_S_S4096x8192 main_cst_0
  let main_v5 : IVec S4096x8192 1 := cmpf .olt main_v3 main_v4
  (main_v2, main_v5)
-- ==== Pre_finite_ReferenceIdeal.lean ====
abbrev S2048x4096 : Shape := ⟨2, ![2048, 4096]⟩
abbrev S4096x16384 : Shape := ⟨2, ![4096, 16384]⟩
abbrev S_ : Shape := ⟨0, ![]⟩

class Facts : Prop where
  bcast_S_S2048x4096 : S_.BroadcastsInDim S2048x4096 (![] : Fin 0 → Fin S2048x4096.rank)
  bcast_S_S4096x16384 : S_.BroadcastsInDim S4096x16384 (![] : Fin 0 → Fin S4096x16384.rank)

variable [Facts]

def fn {F : FTy → Type} [FloatOps F] (main_arg0 : FVec F S2048x4096 .bf16) (main_arg1 : FVec F S4096x16384 .bf16) : IVec S2048x4096 1 × IVec S4096x16384 1 :=
  let main_v0 : FVec F S2048x4096 .bf16 := Host.absf main_arg0
  let main_cst : FVec F S_ .bf16 := constant S_ .bf16 0x7F80#16
  let main_v1 : FVec F S2048x4096 .bf16 := broadcastInDim S2048x4096 ![] bcast_S_S2048x4096 main_cst
  let main_v2 : IVec S2048x4096 1 := cmpf .olt main_v0 main_v1
  let main_v3 : FVec F S4096x16384 .bf16 := Host.absf main_arg1
  let main_cst_0 : FVec F S_ .bf16 := constant S_ .bf16 0x7F80#16
  let main_v4 : FVec F S4096x16384 .bf16 := broadcastInDim S4096x16384 ![] bcast_S_S4096x16384 main_cst_0
  let main_v5 : IVec S4096x16384 1 := cmpf .olt main_v3 main_v4
  (main_v2, main_v5)
-- ==== Kernel.lean ====
abbrev S2048x4096 : Shape := ⟨2, ![2048, 4096]⟩
abbrev S4096x8192 : Shape := ⟨2, ![4096, 8192]⟩
abbrev S2048x16384 : Shape := ⟨2, ![2048, 16384]⟩
abbrev S512x4096 : Shape := ⟨2, ![512, 4096]⟩
abbrev S4096x256 : Shape := ⟨2, ![4096, 256]⟩
abbrev S2x512x8192 : Shape := ⟨3, ![2, 512, 8192]⟩
abbrev S128x8192 : Shape := ⟨2, ![128, 8192]⟩
abbrev S4 : Shape := ⟨1, ![4]⟩
abbrev S2 : Shape := ⟨1, ![2]⟩
abbrev S_ : Shape := ⟨0, ![]⟩
abbrev S1 : Shape := ⟨1, ![1]⟩
abbrev S1x512x8192 : Shape := ⟨3, ![1, 512, 8192]⟩
abbrev S512x8192 : Shape := ⟨2, ![512, 8192]⟩
abbrev S512x256 : Shape := ⟨2, ![512, 256]⟩
abbrev S1x512x256 : Shape := ⟨3, ![1, 512, 256]⟩
abbrev S1x128x8192 : Shape := ⟨3, ![1, 128, 8192]⟩
abbrev S128 : Shape := ⟨1, ![128]⟩
abbrev S128x1 : Shape := ⟨2, ![128, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4096x8192, .bf16⟩
  | .hbm, ⟨2, _⟩ => ⟨S2048x16384, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S4096x256, .bf16⟩
  | .local _ .vmem, ⟨4, _⟩ => ⟨S2x512x8192, .bf16⟩
  | .local _ .vmem, ⟨5, _⟩ => ⟨S2x512x8192, .bf16⟩
  | .local _ .vmem, ⟨6, _⟩ => ⟨S128x8192, .f32⟩
  | .local _ .vmem, ⟨7, _⟩ => ⟨S128x8192, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 2 14 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 1

abbrev nD : Nat := 16
abbrev τ : Topo := Topo.v7x

variable {F : FTy → Type} [FloatOps F]

abbrev grid0 : Pipeline.Grid := ⟨2, ![5, 32], ![false, false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let arg1 : BitVec 32 := BitVec.ofNat 32 (i 1).val
  let c0_i32_3 : BitVec 32 := 0#32
  let v12 : BitVec 1 := Scalar.cmpi .eq arg1 c0_i32_3
  let v13 : BitVec 1 := Scalar.andi v11 v12
  let v14 : BitVec 32 := Scalar.extui v13
  let c0_i32_4 : BitVec 32 := 0#32
  let v15 : BitVec 1 := Scalar.cmpi .ne v14 c0_i32_4
  v15

def k0_dev1 (d0 : Dev nD) : Nat :=
  let c0_i32_21 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_20 : BitVec 32 := 8#32
  let v41 : BitVec 32 := Scalar.muli v2 c8_i32_20
  let v42 : BitVec 32 := Scalar.addi c0_i32_21 v41
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_22 : BitVec 32 := 4#32
  let v43 : BitVec 32 := Scalar.muli v9 c4_i32_22
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v45 : BitVec 32 := Scalar.muli v8 c1_i32_23
  let v46 : BitVec 32 := Scalar.addi v44 v45
  v46.toNat
def k0_cond2 (i : grid0.Coords) : BitVec 1 :=
  let arg1 : BitVec 32 := BitVec.ofNat 32 (i 1).val
  let c0_i32_5 : BitVec 32 := 0#32
  let v16 : BitVec 1 := Scalar.cmpi .eq arg1 c0_i32_5
  let arg0 : BitVec 32 := BitVec.ofNat 32 (i 0).val
  let c2_i32_6 : BitVec 32 := 2#32
  let v17 : BitVec 1 := Scalar.cmpi .sge arg0 c2_i32_6
  let v18 : BitVec 1 := Scalar.andi v16 v17
  let c4_i32_7 : BitVec 32 := 4#32
  let v19 : BitVec 1 := Scalar.cmpi .slt arg0 c4_i32_7
  let v20 : BitVec 1 := Scalar.andi v18 v19
  let v21 : BitVec 32 := Scalar.extui v20
  let c0_i32_8 : BitVec 32 := 0#32
  let v22 : BitVec 1 := Scalar.cmpi .ne v21 c0_i32_8
  v22

def k0_off1 (i : grid0.Coords) : Fin 1 → Nat :=
  let arg0 : BitVec 32 := BitVec.ofNat 32 (i 0).val
  let c2_i32_19 : BitVec 32 := 2#32
  let v41 : BitVec 32 := Scalar.subi arg0 c2_i32_19
  ![v41.toNat]
def k0_off2 (i : grid0.Coords) : Fin 3 → Nat :=
  let arg0 : BitVec 32 := BitVec.ofNat 32 (i 0).val
  let c2_i32_19 : BitVec 32 := 2#32
  let v41 : BitVec 32 := Scalar.subi arg0 c2_i32_19
  let c2_i32_20 : BitVec 32 := 2#32
  let c0_i32_21 : BitVec 32 := 0#32
  let v42 : BitVec 1 := Scalar.cmpi .eq c2_i32_20 c0_i32_21
  let c1_i32_22 : BitVec 32 := 1#32
  let v43 : BitVec 32 := Scalar.select v42 c1_i32_22 c2_i32_20
  let v44 : BitVec 32 := Scalar.remsi v41 v43
  let c0_i32_24 : BitVec 32 := 0#32
  let v46 : BitVec 1 := Scalar.cmpi .slt v44 c0_i32_24
  let c0_i32_25 : BitVec 32 := 0#32
  let v47 : BitVec 1 := Scalar.cmpi .slt v43 c0_i32_25
  let v48 : BitVec 1 := Scalar.xori v46 v47
  let c0_i32_23 : BitVec 32 := 0#32
  let v45 : BitVec 1 := Scalar.cmpi .ne v44 c0_i32_23
  let v49 : BitVec 1 := Scalar.andi v48 v45
  let v50 : BitVec 32 := Scalar.addi v44 v43
  let v51 : BitVec 32 := Scalar.select v49 v50 v44
  let c0_i32_33 : BitVec 32 := 0#32
  let c0_i32_34 : BitVec 32 := 0#32
  ![v51.toNat, 0, 0]
def k0_cond3 (i : grid0.Coords) : BitVec 1 :=
  let arg0 : BitVec 32 := BitVec.ofNat 32 (i 0).val
  let c4_i32_9 : BitVec 32 := 4#32
  let v23 : BitVec 1 := Scalar.cmpi .slt arg0 c4_i32_9
  let v24 : BitVec 32 := Scalar.extui v23
  let c0_i32_10 : BitVec 32 := 0#32
  let v25 : BitVec 1 := Scalar.cmpi .ne v24 c0_i32_10
  v25

def k0_off3 (i : grid0.Coords) : Fin 3 → Nat :=
  let arg0 : BitVec 32 := BitVec.ofNat 32 (i 0).val
  let c2_i32_22 : BitVec 32 := 2#32
  let c0_i32_23 : BitVec 32 := 0#32
  let v47 : BitVec 1 := Scalar.cmpi .eq c2_i32_22 c0_i32_23
  let c1_i32_24 : BitVec 32 := 1#32
  let v48 : BitVec 32 := Scalar.select v47 c1_i32_24 c2_i32_22
  let v49 : BitVec 32 := Scalar.remsi arg0 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v58 : Index := Scalar.indexCast v56
  let c0_28 : Index := 0#32
  let arg1 : BitVec 32 := BitVec.ofNat 32 (i 1).val
  let c256_i32 : BitVec 32 := 256#32
  let v57 : BitVec 32 := Scalar.muli arg1 c256_i32
  let v59 : Index := Scalar.indexCast v57
  ![v58.toNat, 0, v59.toNat]
def k0_cond4 (i : grid0.Coords) : BitVec 1 :=
  let arg1 : BitVec 32 := BitVec.ofNat 32 (i 1).val
  let c31_i32 : BitVec 32 := 31#32
  let v26 : BitVec 1 := Scalar.cmpi .eq arg1 c31_i32
  let arg0 : BitVec 32 := BitVec.ofNat 32 (i 0).val
  let c4_i32_11 : BitVec 32 := 4#32
  let v27 : BitVec 1 := Scalar.cmpi .slt arg0 c4_i32_11
  let v28 : BitVec 1 := Scalar.andi v26 v27
  let v29 : BitVec 32 := Scalar.extui v28
  let c0_i32_12 : BitVec 32 := 0#32
  let v30 : BitVec 1 := Scalar.cmpi .ne v29 c0_i32_12
  v30

def k0_off4 (i : grid0.Coords) : Fin 1 → Nat :=
  let arg0 : BitVec 32 := BitVec.ofNat 32 (i 0).val
  ![arg0.toNat]
def k0_off5 (i : grid0.Coords) : Fin 3 → Nat :=
  let arg0 : BitVec 32 := BitVec.ofNat 32 (i 0).val
  let c2_i32_27 : BitVec 32 := 2#32
  let c0_i32_28 : BitVec 32 := 0#32
  let v54 : BitVec 1 := Scalar.cmpi .eq c2_i32_27 c0_i32_28
  let c1_i32_29 : BitVec 32 := 1#32
  let v55 : BitVec 32 := Scalar.select v54 c1_i32_29 c2_i32_27
  let v56 : BitVec 32 := Scalar.remsi arg0 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c0_i32_37 : BitVec 32 := 0#32
  let c0_i32_38 : BitVec 32 := 0#32
  ![v63.toNat, 0, 0]
def k0_dev2 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v64 : BitVec 32 := Scalar.muli v2 c8_i32_33
  let v65 : BitVec 32 := Scalar.addi c0_i32_34 v64
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_35 : BitVec 32 := 4#32
  let v66 : BitVec 32 := Scalar.muli v9 c4_i32_35
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v68 : BitVec 32 := Scalar.muli v8 c1_i32_36
  let v69 : BitVec 32 := Scalar.addi v67 v68
  v69.toNat
def k0_cond6 (i : grid0.Coords) : BitVec 1 :=
  let arg1 : BitVec 32 := BitVec.ofNat 32 (i 1).val
  let c31_i32_13 : BitVec 32 := 31#32
  let v31 : BitVec 1 := Scalar.cmpi .eq arg1 c31_i32_13
  let arg0 : BitVec 32 := BitVec.ofNat 32 (i 0).val
  let c1_i32_14 : BitVec 32 := 1#32
  let v32 : BitVec 1 := Scalar.cmpi .sge arg0 c1_i32_14
  let v33 : BitVec 1 := Scalar.andi v31 v32
  let v34 : BitVec 32 := Scalar.extui v33
  let c0_i32_15 : BitVec 32 := 0#32
  let v35 : BitVec 1 := Scalar.cmpi .ne v34 c0_i32_15
  v35

def k0_off6 (i : grid0.Coords) : Fin 1 → Nat :=
  let arg0 : BitVec 32 := BitVec.ofNat 32 (i 0).val
  let c1_i32_19 : BitVec 32 := 1#32
  let v41 : BitVec 32 := Scalar.subi arg0 c1_i32_19
  ![v41.toNat]
def k0_off7 (i : grid0.Coords) : Fin 3 → Nat :=
  let arg0 : BitVec 32 := BitVec.ofNat 32 (i 0).val
  let c1_i32_19 : BitVec 32 := 1#32
  let v41 : BitVec 32 := Scalar.subi arg0 c1_i32_19
  let c2_i32_26 : BitVec 32 := 2#32
  let c0_i32_27 : BitVec 32 := 0#32
  let v52 : BitVec 1 := Scalar.cmpi .eq c2_i32_26 c0_i32_27
  let c1_i32_28 : BitVec 32 := 1#32
  let v53 : BitVec 32 := Scalar.select v52 c1_i32_28 c2_i32_26
  let v54 : BitVec 32 := Scalar.remsi v41 v53
  let c0_i32_30 : BitVec 32 := 0#32
  let v56 : BitVec 1 := Scalar.cmpi .slt v54 c0_i32_30
  let c0_i32_31 : BitVec 32 := 0#32
  let v57 : BitVec 1 := Scalar.cmpi .slt v53 c0_i32_31
  let v58 : BitVec 1 := Scalar.xori v56 v57
  let c0_i32_29 : BitVec 32 := 0#32
  let v55 : BitVec 1 := Scalar.cmpi .ne v54 c0_i32_29
  let v59 : BitVec 1 := Scalar.andi v58 v55
  let v60 : BitVec 32 := Scalar.addi v54 v53
  let v61 : BitVec 32 := Scalar.select v59 v60 v54
  let c0_i32_36 : BitVec 32 := 0#32
  let c0_i32_37 : BitVec 32 := 0#32
  ![v61.toNat, 0, 0]
def k0_off8 (i : grid0.Coords) : Fin 3 → Nat :=
  let arg0 : BitVec 32 := BitVec.ofNat 32 (i 0).val
  let c1_i32_19 : BitVec 32 := 1#32
  let v41 : BitVec 32 := Scalar.subi arg0 c1_i32_19
  let c2_i32_40 : BitVec 32 := 2#32
  let c0_i32_41 : BitVec 32 := 0#32
  let v74 : BitVec 1 := Scalar.cmpi .eq c2_i32_40 c0_i32_41
  let c1_i32_42 : BitVec 32 := 1#32
  let v75 : BitVec 32 := Scalar.select v74 c1_i32_42 c2_i32_40
  let v76 : BitVec 32 := Scalar.remsi v41 v75
  let c0_i32_44 : BitVec 32 := 0#32
  let v78 : BitVec 1 := Scalar.cmpi .slt v76 c0_i32_44
  let c0_i32_45 : BitVec 32 := 0#32
  let v79 : BitVec 1 := Scalar.cmpi .slt v75 c0_i32_45
  let v80 : BitVec 1 := Scalar.xori v78 v79
  let c0_i32_43 : BitVec 32 := 0#32
  let v77 : BitVec 1 := Scalar.cmpi .ne v76 c0_i32_43
  let v81 : BitVec 1 := Scalar.andi v80 v77
  let v82 : BitVec 32 := Scalar.addi v76 v75
  let v83 : BitVec 32 := Scalar.select v81 v82 v76
  let v84 : Index := Scalar.indexCast v83
  let c0 : Index := 0#32
  let c0_46 : Index := 0#32
  ![v84.toNat, 0, 0]
def k0_off9 (i : grid0.Coords) (d0 : Dev nD) (c0_i32_75 : BitVec 32) : Fin 2 → Nat :=
  let arg0 : BitVec 32 := BitVec.ofNat 32 (i 0).val
  let c1_i32_19 : BitVec 32 := 1#32
  let v41 : BitVec 32 := Scalar.subi arg0 c1_i32_19
  let c512_i32 : BitVec 32 := 512#32
  let v141 : BitVec 32 := Scalar.muli v41 c512_i32
  let v142 : BitVec 32 := Scalar.addi v141 c0_i32_75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v143 : BitVec 32 := Scalar.muli v5 c8192_i32
  ![v142.toNat, v143.toNat]
def k0_off10 (i : grid0.Coords) (d0 : Dev nD) (c0_i32_75 : BitVec 32) : Fin 2 → Nat :=
  let arg0 : BitVec 32 := BitVec.ofNat 32 (i 0).val
  let c1_i32_19 : BitVec 32 := 1#32
  let v41 : BitVec 32 := Scalar.subi arg0 c1_i32_19
  let c512_i32 : BitVec 32 := 512#32
  let v141 : BitVec 32 := Scalar.muli v41 c512_i32
  let v142 : BitVec 32 := Scalar.addi v141 c0_i32_75
  let c1_i32_76 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v144 : BitVec 32 := Scalar.subi c1_i32_76 v5
  let c8192_i32_77 : BitVec 32 := 8192#32
  let v145 : BitVec 32 := Scalar.muli v144 c8192_i32_77
  ![v142.toNat, v145.toNat]
def k0_off11 (i : grid0.Coords) : Fin 3 → Nat :=
  let arg0 : BitVec 32 := BitVec.ofNat 32 (i 0).val
  let c1_i32_19 : BitVec 32 := 1#32
  let v41 : BitVec 32 := Scalar.subi arg0 c1_i32_19
  let c2_i32_80 : BitVec 32 := 2#32
  let c0_i32_81 : BitVec 32 := 0#32
  let v152 : BitVec 1 := Scalar.cmpi .eq c2_i32_80 c0_i32_81
  let c1_i32_82 : BitVec 32 := 1#32
  let v153 : BitVec 32 := Scalar.select v152 c1_i32_82 c2_i32_80
  let v154 : BitVec 32 := Scalar.remsi v41 v153
  let c0_i32_84 : BitVec 32 := 0#32
  let v156 : BitVec 1 := Scalar.cmpi .slt v154 c0_i32_84
  let c0_i32_85 : BitVec 32 := 0#32
  let v157 : BitVec 1 := Scalar.cmpi .slt v153 c0_i32_85
  let v158 : BitVec 1 := Scalar.xori v156 v157
  let c0_i32_83 : BitVec 32 := 0#32
  let v155 : BitVec 1 := Scalar.cmpi .ne v154 c0_i32_83
  let v159 : BitVec 1 := Scalar.andi v158 v155
  let v160 : BitVec 32 := Scalar.addi v154 v153
  let v161 : BitVec 32 := Scalar.select v159 v160 v154
  let v162 : Index := Scalar.indexCast v161
  let c128 : Index := 128#32
  let c0_86 : Index := 0#32
  ![v162.toNat, 128, 0]
def k0_off12 (i : grid0.Coords) : Fin 3 → Nat :=
  let arg0 : BitVec 32 := BitVec.ofNat 32 (i 0).val
  let c1_i32_19 : BitVec 32 := 1#32
  let v41 : BitVec 32 := Scalar.subi arg0 c1_i32_19
  let c2_i32_124 : BitVec 32 := 2#32
  let c0_i32_125 : BitVec 32 := 0#32
  let v236 : BitVec 1 := Scalar.cmpi .eq c2_i32_124 c0_i32_125
  let c1_i32_126 : BitVec 32 := 1#32
  let v237 : BitVec 32 := Scalar.select v236 c1_i32_126 c2_i32_124
  let v238 : BitVec 32 := Scalar.remsi v41 v237
  let c0_i32_128 : BitVec 32 := 0#32
  let v240 : BitVec 1 := Scalar.cmpi .slt v238 c0_i32_128
  let c0_i32_129 : BitVec 32 := 0#32
  let v241 : BitVec 1 := Scalar.cmpi .slt v237 c0_i32_129
  let v242 : BitVec 1 := Scalar.xori v240 v241
  let c0_i32_127 : BitVec 32 := 0#32
  let v239 : BitVec 1 := Scalar.cmpi .ne v238 c0_i32_127
  let v243 : BitVec 1 := Scalar.andi v242 v239
  let v244 : BitVec 32 := Scalar.addi v238 v237
  let v245 : BitVec 32 := Scalar.select v243 v244 v238
  let v246 : Index := Scalar.indexCast v245
  let c256 : Index := 256#32
  let c0_130 : Index := 0#32
  ![v246.toNat, 256, 0]
def k0_off13 (i : grid0.Coords) : Fin 3 → Nat :=
  let arg0 : BitVec 32 := BitVec.ofNat 32 (i 0).val
  let c1_i32_19 : BitVec 32 := 1#32
  let v41 : BitVec 32 := Scalar.subi arg0 c1_i32_19
  let c2_i32_168 : BitVec 32 := 2#32
  let c0_i32_169 : BitVec 32 := 0#32
  let v320 : BitVec 1 := Scalar.cmpi .eq c2_i32_168 c0_i32_169
  let c1_i32_170 : BitVec 32 := 1#32
  let v321 : BitVec 32 := Scalar.select v320 c1_i32_170 c2_i32_168
  let v322 : BitVec 32 := Scalar.remsi v41 v321
  let c0_i32_172 : BitVec 32 := 0#32
  let v324 : BitVec 1 := Scalar.cmpi .slt v322 c0_i32_172
  let c0_i32_173 : BitVec 32 := 0#32
  let v325 : BitVec 1 := Scalar.cmpi .slt v321 c0_i32_173
  let v326 : BitVec 1 := Scalar.xori v324 v325
  let c0_i32_171 : BitVec 32 := 0#32
  let v323 : BitVec 1 := Scalar.cmpi .ne v322 c0_i32_171
  let v327 : BitVec 1 := Scalar.andi v326 v323
  let v328 : BitVec 32 := Scalar.addi v322 v321
  let v329 : BitVec 32 := Scalar.select v327 v328 v322
  let v330 : Index := Scalar.indexCast v329
  let c384 : Index := 384#32
  let c0_174 : Index := 0#32
  ![v330.toNat, 384, 0]
def k0_cond7 (i : grid0.Coords) : BitVec 1 :=
  let arg0 : BitVec 32 := BitVec.ofNat 32 (i 0).val
  let c1_i32_19 : BitVec 32 := 1#32
  let v41 : BitVec 32 := Scalar.subi arg0 c1_i32_19
  let c2_i32_214 : BitVec 32 := 2#32
  let v410 : BitVec 1 := Scalar.cmpi .slt v41 c2_i32_214
  let v411 : BitVec 32 := Scalar.extui v410
  let c0_i32_215 : BitVec 32 := 0#32
  let v412 : BitVec 1 := Scalar.cmpi .ne v411 c0_i32_215
  v412

def k0_dev3 (d0 : Dev nD) : Nat :=
  let c0_i32_218 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_217 : BitVec 32 := 8#32
  let v413 : BitVec 32 := Scalar.muli v2 c8_i32_217
  let v414 : BitVec 32 := Scalar.addi c0_i32_218 v413
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_219 : BitVec 32 := 4#32
  let v415 : BitVec 32 := Scalar.muli v9 c4_i32_219
  let v416 : BitVec 32 := Scalar.addi v414 v415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v417 : BitVec 32 := Scalar.muli v8 c1_i32_220
  let v418 : BitVec 32 := Scalar.addi v416 v417
  v418.toNat
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c31_i32 : BitVec 32 := 31#32
  let v1 : BitVec 32 := Scalar.select v0 c31_i32 arg1
  let c0_i32 : BitVec 32 := 0#32
  let c0_i32_0 : BitVec 32 := 0#32
  ![c0_i32.toNat, v1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S2048x4096 : Shape := ⟨2, ![2048, 4096]⟩
abbrev S4096x16384 : Shape := ⟨2, ![4096, 16384]⟩
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 16
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x16384, .bf16⟩
  | .hbm, ⟨2, _⟩ => ⟨S2048x4096, .f32⟩
  | .hbm, ⟨3, _⟩ => ⟨S4096x16384, .f32⟩
  | .hbm, ⟨4, _⟩ => ⟨S2048x16384, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x16384, .f32⟩
  | .hbm, ⟨9, _⟩ => ⟨S2048x16384, .f32⟩
  | .hbm, ⟨10, _⟩ => ⟨S2048x16384, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x16384, .f32⟩
  | .hbm, ⟨15, _⟩ => ⟨S2048x16384, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Common.lean ====
/-
# `Common`: the two-device exchange, its words in closed form

A device is at `(x, y, z)`; its partner is the device with the other `y`. The grid point `n` of 160 is
`(n / 32, n % 32)`: row chunk and column block.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Release

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The partner -/

/-- The device's `y` coordinate. -/
abbrev half (c : Dev nD) : ℕ := c.val / 4 % 2

/-- The device with the other `y`. -/
def peer (c : Dev nD) : Dev nD := ⟨(8 * (c.val / 8) + c.val % 4 + 4) - 4 * (c.val / 4 % 2), by
  have h : c.val < 16 := c.isLt
  show _ < 16
  omega⟩

theorem peer_peer (c : Dev nD) : peer (peer c) = c := by revert c; decide +kernel
theorem peer_ne (c : Dev nD) : peer c ≠ c := by revert c; decide +kernel
theorem half_peer (c : Dev nD) : half (peer c) = 1 - half c := by revert c; decide +kernel
theorem half_lt (c : Dev nD) : half c < 2 := Nat.mod_lt _ (by decide)

/-- Going to the partner, as a permutation of the devices. -/
def swap : Dev nD ≃ Dev nD := ⟨peer, peer, peer_peer, peer_peer⟩

theorem dev1_eq (c : Dev nD) (h : k0_dev1 c < nD) : (⟨k0_dev1 c, h⟩ : Dev nD) = peer c := Fin.ext (k0_dev1_eq c)
theorem dev2_eq (c : Dev nD) (h : k0_dev2 c < nD) : (⟨k0_dev2 c, h⟩ : Dev nD) = peer c := Fin.ext (k0_dev2_eq c)
theorem dev3_eq (c : Dev nD) (h : k0_dev3 c < nD) : (⟨k0_dev3 c, h⟩ : Dev nD) = peer c := Fin.ext (k0_dev3_eq c)

/-! ## The conditions and the offsets of a point -/

theorem cond1_iff : ∀ i : grid0.Coords, k0_cond1 i = 1#1 ↔ ((i 0).val = 0 ∧ (i 1).val = 0) := by decide +kernel
theorem cond2_iff : ∀ i : grid0.Coords, k0_cond2 i = 1#1 ↔ ((i 1).val = 0 ∧ 2 ≤ (i 0).val ∧ (i 0).val < 4) := by decide +kernel
theorem cond3_iff : ∀ i : grid0.Coords, k0_cond3 i = 1#1 ↔ (i 0).val < 4 := by decide +kernel
theorem cond4_iff : ∀ i : grid0.Coords, k0_cond4 i = 1#1 ↔ ((i 1).val = 31 ∧ (i 0).val < 4) := by decide +kernel
theorem cond6_iff : ∀ i : grid0.Coords, k0_cond6 i = 1#1 ↔ ((i 1).val = 31 ∧ 1 ≤ (i 0).val) := by decide +kernel
theorem cond7_iff : ∀ i : grid0.Coords, 1 ≤ (i 0).val → (k0_cond7 i = 1#1 ↔ (i 0).val < 3) := by decide +kernel

/-- The inner condition of the send: the chunk is at least the third. -/
theorem cond5_iff : ∀ i : grid0.Coords,
    ((Scalar.cmpi .ne (Scalar.extui (Scalar.cmpi .sge (BitVec.ofNat 32 (i 0).val) 2#32) : BitVec 32) 0#32) = 1#1 ↔ 2 ≤ (i 0).val) := by decide +kernel

theorem off1_eq : ∀ i : grid0.Coords, k0_cond2 i = 1#1 → k0_off1 i = ![(i 0).val - 2] := by decide +kernel
theorem off2_eq : ∀ i : grid0.Coords, k0_cond2 i = 1#1 → k0_off2 i = ![(i 0).val % 2, 0, 0] := by decide +kernel
theorem off3_eq : ∀ i : grid0.Coords, k0_off3 i = ![(i 0).val % 2, 0, 256 * (i 1).val] := by decide +kernel
theorem off5_eq : ∀ i : grid0.Coords, k0_off5 i = ![(i 0).val % 2, 0, 0] := by decide +kernel
theorem off6_eq : ∀ i : grid0.Coords, k0_cond6 i = 1#1 → k0_off6 i = ![(i 0).val - 1] := by decide +kernel
theorem off7_eq : ∀ i : grid0.Coords, k0_cond6 i = 1#1 → k0_off7 i = ![((i 0).val - 1) % 2, 0, 0] := by decide +kernel
theorem off8_eq : ∀ i : grid0.Coords, k0_cond6 i = 1#1 → k0_off8 i = ![((i 0).val - 1) % 2, 0, 0] := by decide +kernel
theorem off11_eq : ∀ i : grid0.Coords, k0_cond6 i = 1#1 → k0_off11 i = ![((i 0).val - 1) % 2, 128, 0] := by decide +kernel
theorem off12_eq : ∀ i : grid0.Coords, k0_cond6 i = 1#1 → k0_off12 i = ![((i 0).val - 1) % 2, 256, 0] := by decide +kernel
theorem off13_eq : ∀ i : grid0.Coords, k0_cond6 i = 1#1 → k0_off13 i = ![((i 0).val - 1) % 2, 384, 0] := by decide +kernel
theorem off9_eq : ∀ (i : grid0.Coords), k0_cond6 i = 1#1 → ∀ (d : Dev nD) (r : Fin 4),
    k0_off9 i d (BitVec.ofNat 32 (128 * r.val)) = ![512 * ((i 0).val - 1) + 128 * r.val, 8192 * half d] := by decide +kernel
theorem off10_eq : ∀ (i : grid0.Coords), k0_cond6 i = 1#1 → ∀ (d : Dev nD) (r : Fin 4),
    k0_off10 i d (BitVec.ofNat 32 (128 * r.val)) = ![512 * ((i 0).val - 1) + 128 * r.val, 8192 * (1 - half d)] := by decide +kernel

end Cert.Exchange

end
-- ==== Proof.Protocol.lean ====
/-
# `Protocol`: the ghost state, the times, the contents and the schedule of the exchange

Every grid point is cut into eight stages (`8 * n + s` is the time before stage `s` of point `n`):
0 the entry handshake, 1 the wait that gives the logits slot back, 2 the product, 3 the wait for a credit,
4 the transfer's issue, 5 the wait for the partner's chunk with its softmax, 6 the credit's signal,
7 the last waits. Each piece of a device's state is a function of the time.

Who pays what, for device `c` with partner `p`:
* barrier cell of `c`: one unit from `p`; it says that `p`'s two landing slots were released once.
* send cell `k` of `c`: the transfer's own read of `c`'s logits slot; the wait gives that half share back.
* receive cell `k` of `c`: the landing of `p`'s chunk `k`, in slot `k % 2`, with its contents.
* credit cell of `c`: two units from `p`; the first says `p`'s slot 0 was released a second time, the second the
  same of slots 0 and 1.
-/
module

public import proofs.«01_k».proof.Proof.Common

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

/-! ## The ghost state -/

/-- A landing slot: its owner and its number. -/
abbrev Slot : Type := Dev nD × Fin 2

abbrev UB : Type := URounds (GSem nD τ sig) Bool
abbrev US : Type := Release.USlots Slot
/-- The pipeline's copy, the exchange's rounds, the landing slots, the local transfers' counters. -/
abbrev UU : Type := UR sig nD τ × (UB × (US × Counters))

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × (US × Counters))).trans embR
abbrev ESC : Emb (US × Counters) (MT nD τ sig ℕ (Elt F) ℕ UU ℕ) := (Emb.inr : Emb (US × Counters) (UB × (US × Counters))).trans embR
abbrev ES : Emb US (MT nD τ sig ℕ (Elt F) ℕ UU ℕ) := (Emb.inl : Emb US (US × Counters)).trans ESC
abbrev EC : UEmb Counters (MT nD τ sig ℕ (Elt F) ℕ UU ℕ) := countersEmb

variable (m : (ℓ : Loc nD τ sig) → Buf (Elt F) ℓ)

/-! ## The times -/

abbrev tSend (k : ℕ) : ℕ := 8 * (32 * k + 31) + 4
abbrev tRecv (k : ℕ) : ℕ := 8 * (32 * k + 63) + 5
abbrev tCred (j : ℕ) : ℕ := 8 * (32 * j + 63) + 6
abbrev tCw (j : ℕ) : ℕ := 8 * (32 * j + 95) + 3
abbrev tSw (k : ℕ) : ℕ := if k < 2 then 8 * (32 * k + 64) + 1 else 8 * 159 + 7

/-- How many column blocks of chunk `k` are computed before time `T`. -/
abbrev cnt (k T : ℕ) : ℕ := min 32 ((T + 5) / 8 - 32 * k)
/-- How many row chunks of the result are written before time `T`. -/
abbrev cntOut (T : ℕ) : ℕ := (T - 254) / 256

/-! ## Memrefs, semaphores, cells -/

abbrev barS : Sem sig := (SemArray.scalar (sig.barrier 0 rfl) : Sems sig S_).sem
abbrev credS : Sem sig := (cc0_scratch7 : Sems sig S_).sem
def sendS (k : Fin 4) : DmaSem sig := ⟨4 + k.val, by have := k.isLt; show _ < 14; omega⟩
def recvS (k : Fin 4) : DmaSem sig := ⟨8 + k.val, by have := k.isLt; show _ < 14; omega⟩
def outS (k : Fin 2) : DmaSem sig := ⟨12 + k.val, by have := k.isLt; show _ < 14; omega⟩

theorem sendS_eq (off : Fin 1 → ℕ) (h) (k : Fin 4) (e : off = ![k.val]) :
    (((cc0_scratch4 : DmaSems sig S4).slice (Rect.unit (s := S4) off S1.size h)).squeeze S_ squeezes_S1_S_).sem = sendS k := by
  subst e; revert k; decide +kernel
theorem recvS_eq (off : Fin 1 → ℕ) (h) (k : Fin 4) (e : off = ![k.val]) :
    (((cc0_scratch5 : DmaSems sig S4).slice (Rect.unit (s := S4) off S1.size h)).squeeze S_ squeezes_S1_S_).sem = recvS k := by
  subst e; revert k; decide +kernel
theorem outS_eq (off : Fin 1 → ℕ) (h) (k : Fin 2) (e : off = ![k.val]) :
    (((cc0_scratch6 : DmaSems sig S2).slice (Rect.unit (s := S2) off S1.size h)).squeeze S_ squeezes_S1_S_).sem = outS k := by
  subst e; revert k; decide +kernel

abbrev barC (c : Dev nD) : GSem nD τ sig := ((c : Thread nD τ), .reg barS)
abbrev credC (c : Dev nD) : GSem nD τ sig := ((c : Thread nD τ), .reg credS)
abbrev sendC (c : Dev nD) (k : Fin 4) : GSem nD τ sig := ((c : Thread nD τ), .dma (sendS k))
abbrev recvC (c : Dev nD) (k : Fin 4) : GSem nD τ sig := ((c : Thread nD τ), .dma (recvS k))

/-- Slot `s` of a device's logits, of its landing buffer. -/
abbrev slotL (off : Fin 3 → ℕ) (h : ∀ a, off a + S1x512x8192.size a ≤ S2x512x8192.size a) : Memref sig .tc .vmem S512x8192 .bf16 :=
  ((Memref.whole cc0_scratch0 : Memref sig .tc .vmem S2x512x8192 .bf16).slice (Rect.unit (s := S2x512x8192) off S1x512x8192.size h) (fun _ => rfl)).squeeze
    S512x8192 squeezes_S1x512x8192_S512x8192
abbrev slotR (off : Fin 3 → ℕ) (h : ∀ a, off a + S1x512x8192.size a ≤ S2x512x8192.size a) : Memref sig .tc .vmem S512x8192 .bf16 :=
  ((Memref.whole cc0_scratch1 : Memref sig .tc .vmem S2x512x8192 .bf16).slice (Rect.unit (s := S2x512x8192) off S1x512x8192.size h) (fun _ => rfl)).squeeze
    S512x8192 squeezes_S1x512x8192_S512x8192

def slotSet (s : ℕ) : Finset S2x512x8192.Idx := Finset.univ.filter fun j => (j 0).val = s

theorem mem_slotSet {s : ℕ} {j : S2x512x8192.Idx} : j ∈ slotSet s ↔ (j 0).val = s := by
  unfold slotSet; rw [Finset.mem_filter]; exact ⟨fun h => h.2, fun h => ⟨Finset.mem_univ _, h⟩⟩

theorem mem_rect (s : ℕ) (h) (j : S2x512x8192.Idx) :
    j ∈ (Rect.unit (s := S2x512x8192) ![s, 0, 0] S1x512x8192.size h).set ↔ (j 0).val = s := by
  rw [Rect.mem_set_unit]
  constructor
  · intro hj
    have h0 := hj 0
    simp only [Matrix.cons_val_zero] at h0
    have : S1x512x8192.size 0 = 1 := rfl
    omega
  · intro hj a
    have h1 : (j 1).val < 512 := (j 1).isLt
    have h2 : (j 2).val < 8192 := (j 2).isLt
    fin_cases a
    · show s ≤ (j 0).val ∧ (j 0).val < s + 1; omega
    · show 0 ≤ (j 1).val ∧ (j 1).val < 0 + 512; omega
    · show 0 ≤ (j 2).val ∧ (j 2).val < 0 + 8192; omega

theorem slotL_set (s : ℕ) (off : Fin 3 → ℕ) (h) (e : off = ![s, 0, 0]) : (slotL off h).view.set = slotSet s := by
  subst e
  have e1 : (slotL ![s, 0, 0] h).view.set = ((View.whole cc0_scratch0).slice (Rect.unit (s := S2x512x8192) ![s, 0, 0] S1x512x8192.size h)).set :=
    View.set_reshape _ _
  refine e1.trans ((View.set_slice_whole _ _).trans ?_)
  ext j; exact (mem_rect s h j).trans mem_slotSet.symm
theorem slotR_set (s : ℕ) (off : Fin 3 → ℕ) (h) (e : off = ![s, 0, 0]) : (slotR off h).view.set = slotSet s := by
  subst e
  have e1 : (slotR ![s, 0, 0] h).view.set = ((View.whole cc0_scratch1).slice (Rect.unit (s := S2x512x8192) ![s, 0, 0] S1x512x8192.size h)).set :=
    View.set_reshape _ _
  refine e1.trans ((View.set_slice_whole _ _).trans ?_)
  ext j; exact (mem_rect s h j).trans mem_slotSet.symm

/-- The units of a whole chunk's transfer. -/
def N : ℕ := (slotR ![0, 0, 0] inb_S2x512x8192_S1x512x8192_0_0_0).view.dmaCredit
theorem N_pos : 0 < N := View.dmaCredit_pos _ (by decide)
theorem creditR (off) (h) : (slotR off h).view.dmaCredit = N := rfl
theorem creditL (off) (h) : (slotL off h).view.dmaCredit = N := rfl

/-! ## Contents -/

/-- The grid point. -/
def pt (n : ℕ) : Fin cfg0.N := ⟨n % 160, by show _ < grid0.N; rw [N_0]; exact Nat.mod_lt _ (by decide)⟩

/-- The product device `c` stores at a point. -/
def payT (c : Dev nD) (t : Fin cfg0.N) : FVec F S1x512x256 .bf16 := k0_pay36 (iblk m c 0 t) (iblk m c 1 t)

/-- An index of one stored product. -/
def tix (r : Fin 512) (q : ℕ) : S1x512x256.Idx := fun a => match a with
  | ⟨0, _⟩ => (⟨0, by decide⟩ : Fin 1)
  | ⟨1, _⟩ => r
  | ⟨2, _⟩ => (⟨q % 256, Nat.mod_lt _ (by decide)⟩ : Fin 256)

/-- Device `c`'s logits of row chunk `k`, by row and column. -/
def LBv (c : Dev nD) (k : ℕ) (r : Fin 512) (q : ℕ) : Elt F .bf16 := payT m c (pt (32 * k + q / 256)) (tix r q)

/-- The same at an index of the buffer, whatever the slot. -/
def LB (c : Dev nD) (k : ℕ) (j : S2x512x8192.Idx) : Elt F .bf16 := LBv m c k (j 1) (j 2).val

/-- Slot `s` holds the first `b` column blocks of chunk `k`. -/
def Filled (c : Dev nD) (k s b : ℕ) (f : S2x512x8192.Idx → Elt F .bf16) : Prop :=
  ∀ j : S2x512x8192.Idx, (j 0).val = s → (j 2).val < 256 * b → f j = LB m c k j

/-- The location of a device's logits, of its landing buffer. -/
abbrev locL (c : Dev nD) : Loc nD τ sig := (c : Thread nD τ).loc cc0_scratch0
abbrev locR (c : Dev nD) : Loc nD τ sig := (c : Thread nD τ).loc cc0_scratch1

/-- Slot `s` of the logits at share `q`, the first `b` column blocks of chunk `k` in it. -/
def lsv (c : Dev nD) (q : PosShare TreeShare) (k s b : ℕ) : sProp 𝕄 :=
  iprop(∃ f : Buf (Elt F) (locL c), ⌜Filled m c k s b f⌝ ∗ (locL c ↦[slotSet s]{q} f))
/-- Landing slot `s` at any contents. -/
def rsAny (c : Dev nD) (s : ℕ) : sProp 𝕄 := iprop(∃ f : Buf (Elt F) (locR c), (locR c ↦[slotSet s]{fullShare} f))
/-- Landing slot `s` holding the partner's chunk `k`. -/
def rsv (c : Dev nD) (k s : ℕ) : sProp 𝕄 :=
  iprop(∃ f : Buf (Elt F) (locR c), ⌜Filled m (peer c) k s 32 f⌝ ∗ (locR c ↦[slotSet s]{fullShare} f))

instance lsv_storable (c : Dev nD) (q) (k s b : ℕ) : BI.Storable (upEmb : UEmb _ 𝕄) (lsv m c q k s b) := by unfold lsv; infer_instance
omit [FloatOps F] in
instance rsAny_storable (c : Dev nD) (s : ℕ) : BI.Storable (upEmb : UEmb _ 𝕄) (rsAny (F := F) c s) := by unfold rsAny; infer_instance
instance rsv_storable (c : Dev nD) (k s : ℕ) : BI.Storable (upEmb : UEmb _ 𝕄) (rsv m c k s) := by unfold rsv; infer_instance

/-! ## The schedule -/

/-- What a barrier cell of `c` brings: `p`'s two landing slots were released. -/
def barPay (c : Dev nD) : sProp 𝕄 := iprop(released ES (peer c, 0) 1 ∗ released ES (peer c, 1) 1)
/-- What a credit brings: slot 0 was released again, and with the second slot 1. -/
def credPay (c : Dev nD) (d : Bool) : sProp 𝕄 := iprop(released ES (peer c, 0) 2 ∗ (if d then released ES (peer c, 1) 2 else iprop(emp)))

omit [FloatOps F] in
instance barPay_storable (c : Dev nD) : BI.Storable (upEmb : UEmb _ 𝕄) (barPay (F := F) c) := by unfold barPay; infer_instance
omit [FloatOps F] in
instance credPay_storable (c : Dev nD) (d : Bool) : BI.Storable (upEmb : UEmb _ 𝕄) (credPay (F := F) c d) := by
  unfold credPay; cases d <;> (simp only [Bool.false_eq_true, if_false, if_true]; infer_instance)

/-- One round of every cell. -/
def Rd : Rounds.Schedule (GSem nD τ sig) Bool 𝕄 where
  duties g r := if r = 0 ∧ g.1.2 = .tc then
      (match g.2 with
        | .reg s => if s = barS then {false} else Finset.univ
        | .dma s => if 4 ≤ s.val ∧ s.val < 12 then {false} else ∅)
    else ∅
  unitless _ := False
  amount g _ _ := match g.2 with
    | .reg _ => 1
    | .dma _ => N
  payload g _ d := match g.2 with
    | .reg s => if s = barS then barPay g.1.1 else credPay g.1.1 d
    | .dma s => if s.val < 8 then lsv m g.1.1 fullShare.left ((s.val - 4)) ((s.val - 4) % 2) 32 else rsv m g.1.1 (s.val - 8) ((s.val - 8) % 2)
  amount_pos g _ _ _ := by
    rcases g with ⟨t, s | s⟩
    · exact Nat.one_pos
    · exact N_pos

instance Rd_storable (g : GSem nD τ sig) (r : ℕ) (d : Bool) : BI.Storable (upEmb : UEmb _ 𝕄) ((Rd (F := F) m).payload g r d) := by
  rcases g with ⟨t, s | s⟩
  · show BI.Storable upEmb (if s = barS then barPay t.1 else credPay t.1 d)
    split <;> infer_instance
  · show BI.Storable upEmb (if s.val < 8 then lsv m t.1 fullShare.left ((s.val - 4)) ((s.val - 4) % 2) 32 else rsv m t.1 (s.val - 8) ((s.val - 8) % 2))
    split <;> infer_instance

section Sched
variable (c : Dev nD) (k : Fin 4)

theorem credS_ne : credS ≠ barS := by decide

theorem duties_bar : (Rd (F := F) m).duties (barC c) 0 = {false} := by
  dsimp only [Rd]; rw [if_pos ⟨rfl, rfl⟩]; exact if_pos rfl
theorem duties_cred : (Rd (F := F) m).duties (credC c) 0 = Finset.univ := by
  dsimp only [Rd]; rw [if_pos ⟨rfl, rfl⟩]; exact if_neg credS_ne
theorem duties_send : (Rd (F := F) m).duties (sendC c k) 0 = {false} := by
  have := k.isLt
  dsimp only [Rd]; rw [if_pos ⟨rfl, rfl⟩]
  exact if_pos ⟨by show 4 ≤ 4 + k.val; omega, by show 4 + k.val < 12; omega⟩
theorem duties_recv : (Rd (F := F) m).duties (recvC c k) 0 = {false} := by
  have := k.isLt
  dsimp only [Rd]; rw [if_pos ⟨rfl, rfl⟩]
  exact if_pos ⟨by show 4 ≤ 8 + k.val; omega, by show 8 + k.val < 12; omega⟩
theorem duties_later (g : GSem nD τ sig) : ∀ r, 1 ≤ r → (Rd (F := F) m).duties g r = ∅ :=
  fun r hr => by dsimp only [Rd]; rw [if_neg fun h => by omega]

theorem amount_reg (s : Sem sig) (r : ℕ) (d : Bool) : (Rd (F := F) m).amount ((c : Thread nD τ), .reg s) r d = 1 := rfl
theorem amount_dma (s : DmaSem sig) (r : ℕ) (d : Bool) : (Rd (F := F) m).amount ((c : Thread nD τ), .dma s) r d = N := rfl

theorem expect_bar : (Rd (F := F) m).expect (barC c) 0 = 1 := by
  unfold Schedule.expect Schedule.amountOf; rw [duties_bar, Finset.sum_singleton]; rfl
theorem expect_cred : (Rd (F := F) m).expect (credC c) 0 = 2 := by
  unfold Schedule.expect Schedule.amountOf
  rw [duties_cred, Finset.sum_congr rfl fun d _ => amount_reg m c credS 0 d, Finset.sum_const, Finset.card_univ, Fintype.card_bool, smul_eq_mul]
theorem expect_send : (Rd (F := F) m).expect (sendC c k) 0 = N := by
  unfold Schedule.expect Schedule.amountOf; rw [duties_send, Finset.sum_singleton]; rfl
theorem expect_recv : (Rd (F := F) m).expect (recvC c k) 0 = N := by
  unfold Schedule.expect Schedule.amountOf; rw [duties_recv, Finset.sum_singleton]; rfl

theorem payload_bar (d : Bool) : (Rd (F := F) m).payload (barC c) 0 d = barPay c := by dsimp only [Rd]; exact if_pos rfl
theorem payload_cred (d : Bool) : (Rd (F := F) m).payload (credC c) 0 d = credPay c d := by dsimp only [Rd]; exact if_neg credS_ne
theorem payload_send (d : Bool) : (Rd (F := F) m).payload (sendC c k) 0 d = lsv m c fullShare.left k.val (k.val % 2) 32 := by
  have hk := k.isLt
  dsimp only [Rd]; rw [if_pos (by show 4 + k.val < 8; omega)]
  show lsv m c _ (4 + k.val - 4) ((4 + k.val - 4) % 2) 32 = _
  rw [Nat.add_sub_cancel_left]
theorem payload_recv (d : Bool) : (Rd (F := F) m).payload (recvC c k) 0 d = rsv m c k.val (k.val % 2) := by
  dsimp only [Rd]; rw [if_neg (by show ¬ 8 + k.val < 8; omega)]
  show rsv m c (8 + k.val - 8) ((8 + k.val - 8) % 2) = _
  rw [Nat.add_sub_cancel_left]

theorem rest_bar : bigSep ((Rd (F := F) m).duties (barC c) 0 \ ∅) (fun d => (Rd (F := F) m).payload (barC c) 0 d) = barPay c := by
  rw [Finset.sdiff_empty, duties_bar, bigSep_singleton, payload_bar]
theorem rest_send : bigSep ((Rd (F := F) m).duties (sendC c k) 0 \ ∅) (fun d => (Rd (F := F) m).payload (sendC c k) 0 d)
    = lsv m c fullShare.left k.val (k.val % 2) 32 := by
  rw [Finset.sdiff_empty, duties_send, bigSep_singleton, payload_send]
theorem rest_recv : bigSep ((Rd (F := F) m).duties (recvC c k) 0 \ ∅) (fun d => (Rd (F := F) m).payload (recvC c k) 0 d)
    = rsv m c k.val (k.val % 2) := by
  rw [Finset.sdiff_empty, duties_recv, bigSep_singleton, payload_recv]

end Sched

/-! ## What a device owes; the levels -/

/-- What `c` still owes its partner's cells before time `T`. -/
def barO (c : Dev nD) (T : ℕ) : CellTallies nD τ sig ℕ := if T ≤ 0 then tallyAt (barC (peer c)) 0 1 else 0
def recvO (c : Dev nD) (T : ℕ) (k : Fin 4) : CellTallies nD τ sig ℕ := if T ≤ tSend k then tallyAt (recvC (peer c) k) 0 N else 0
def credO (c : Dev nD) (T : ℕ) (j : Fin 2) : CellTallies nD τ sig ℕ := if T ≤ tCred j then tallyAt (credC (peer c)) j.val 1 else 0
def owedT (c : Dev nD) (T : ℕ) : CellTallies nD τ sig ℕ := barO c T + (∑ k, recvO c T k + ∑ j, credO c T j)

/-- Three indices of every TensorCore cell: 2 is the local ones' and the pipeline's. -/
def L (g : GSem nD τ sig) : Finset ℕ := if g.1.2 = .tc then {0, 1, 2} else ∅
def lv (g : GSem nD τ sig) (i : ℕ) : ℕ :=
  if i = 2 then 0 else match g.2 with
    | .reg s => if s = barS then 1 else if i = 0 then 3 else 5
    | .dma s => if s.val = 8 then 2 else if s.val = 9 then 4 else if s.val = 10 then 6 else if s.val = 11 then 7 else 0

/-- The levels of the paying cells by time: what is owed after time `T` sits above `lvAt`. -/
theorem L_tc (c : Dev nD) (sm : SemLoc sig) : L ((c : Thread nD τ), sm) = {0, 1, 2} := if_pos rfl
theorem L_of_ne (g : GSem nD τ sig) (h : g.1.2 ≠ .tc) : L g = ∅ := if_neg h

theorem lv_two (g : GSem nD τ sig) : lv g 2 = 0 := if_pos rfl
theorem lv_bar (c : Dev nD) : lv (barC c) 0 = 1 := by unfold lv; rw [if_neg (by decide)]; exact if_pos rfl
theorem lv_cred (c : Dev nD) (j : Fin 2) : lv (credC c) j.val = 3 + 2 * j.val := by
  unfold lv; rw [if_neg (by have := j.isLt; omega)]
  show (if credS = barS then 1 else if j.val = 0 then 3 else 5) = _
  rw [if_neg credS_ne]; revert j; decide
theorem lv_recv (c : Dev nD) (k : Fin 4) : lv (recvC c k) 0 = if k.val = 0 then 2 else if k.val = 1 then 4 else 4 + k.val := by
  unfold lv; rw [if_neg (by decide)]
  show (if (8 + k.val) = 8 then 2 else if (8 + k.val) = 9 then 4 else if (8 + k.val) = 10 then 6 else if (8 + k.val) = 11 then 7 else 0) = _
  have := k.isLt
  split_ifs <;> omega

theorem recvO_pos {c : Dev nD} {T : ℕ} {k : Fin 4} {g : GSem nD τ sig} {i : ℕ} (h : 0 < recvO c T k g i) :
    T ≤ tSend k ∧ g = recvC (peer c) k ∧ i = 0 := by
  unfold recvO at h
  split at h
  · rename_i hT
    rw [tallyAt_apply] at h
    split at h
    · rename_i hg; exact ⟨hT, hg.1, hg.2⟩
    · exact absurd h (Nat.lt_irrefl 0)
  · exact absurd h (Nat.lt_irrefl 0)
theorem credO_pos {c : Dev nD} {T : ℕ} {j : Fin 2} {g : GSem nD τ sig} {i : ℕ} (h : 0 < credO c T j g i) :
    T ≤ tCred j ∧ g = credC (peer c) ∧ i = j.val := by
  unfold credO at h
  split at h
  · rename_i hT
    rw [tallyAt_apply] at h
    split at h
    · rename_i hg; exact ⟨hT, hg.1, hg.2⟩
    · exact absurd h (Nat.lt_irrefl 0)
  · exact absurd h (Nat.lt_irrefl 0)
theorem barO_pos {c : Dev nD} {T : ℕ} {g : GSem nD τ sig} {i : ℕ} (h : 0 < barO c T g i) :
    T = 0 ∧ g = barC (peer c) ∧ i = 0 := by
  unfold barO at h
  split at h
  · rename_i hT
    rw [tallyAt_apply] at h
    split at h
    · rename_i hg; exact ⟨Nat.le_zero.mp hT, hg.1, hg.2⟩
    · exact absurd h (Nat.lt_irrefl 0)
  · exact absurd h (Nat.lt_irrefl 0)

theorem owedT_pos {c : Dev nD} {T : ℕ} {g : GSem nD τ sig} {i : ℕ} (h : 0 < owedT c T g i) :
    (T = 0 ∧ g = barC (peer c) ∧ i = 0) ∨ (∃ k : Fin 4, T ≤ tSend k ∧ g = recvC (peer c) k ∧ i = 0)
      ∨ (∃ j : Fin 2, T ≤ tCred j ∧ g = credC (peer c) ∧ i = j.val) := by
  unfold owedT at h
  simp only [Fin.sum_univ_four, Fin.sum_univ_two, Pi.add_apply, Finsupp.add_apply] at h
  by_cases h0 : 0 < barO c T g i
  · exact .inl (barO_pos h0)
  by_cases h1 : ∃ k, 0 < recvO c T k g i
  · obtain ⟨k, hk⟩ := h1; exact .inr (.inl ⟨k, recvO_pos hk⟩)
  by_cases h2 : ∃ j, 0 < credO c T j g i
  · obtain ⟨j, hj⟩ := h2; exact .inr (.inr ⟨j, credO_pos hj⟩)
  · have a := fun k => Nat.eq_zero_of_not_pos fun hk => h1 ⟨k, hk⟩
    have b := fun j => Nat.eq_zero_of_not_pos fun hj => h2 ⟨j, hj⟩
    simp only [a, b, Nat.eq_zero_of_not_pos h0] at h
    exact absurd h (Nat.lt_irrefl 0)

theorem fin2_mem : ∀ j : Fin 2, j.val ∈ ({0, 1, 2} : Finset ℕ) := by decide

theorem owedT_mem {c : Dev nD} {T : ℕ} {g : GSem nD τ sig} {i : ℕ} (h : 0 < owedT c T g i) : i ∈ L g := by
  rcases owedT_pos h with ⟨-, rfl, rfl⟩ | ⟨k, -, rfl, rfl⟩ | ⟨j, -, rfl, rfl⟩
  · rw [L_tc]; decide
  · rw [L_tc]; decide
  · rw [L_tc]; exact fin2_mem j

/-- A wait at a level below everything still owed may be made. -/
theorem mayWait_of (c : Dev nD) (sm : SemLoc sig) (i : ℕ) (hi : i ∈ ({0, 1, 2} : Finset ℕ)) (T b : ℕ)
    (hw : lv ((c : Thread nD τ), sm) i ≤ b) (hb : ∀ g j, 0 < owedT c T g j → b < lv g j) :
    (levAts L lv : sProp 𝕄) ⊢ MayWait (c : Thread nD τ) sm i (owedT c T) :=
  MayOwe.of_cut (L := L) (lev := lv) b
    (fun p hp => by rw [Finset.mem_singleton.mp hp, L_tc]; exact hi)
    (fun g j hg => owedT_mem hg)
    (fun p hp => by rw [Finset.mem_singleton.mp hp]; exact hw) hb

/-- Index 2 sits below everything. -/
theorem mayWait_two (c : Dev nD) (sm : SemLoc sig) (T : ℕ) :
    (levAts L lv : sProp 𝕄) ⊢ MayWait (c : Thread nD τ) sm 2 (owedT c T) :=
  mayWait_of c sm 2 (by decide) T 0 (by rw [lv_two]) fun g j hg => by
    rcases owedT_pos hg with ⟨-, rfl, rfl⟩ | ⟨k, -, rfl, rfl⟩ | ⟨j, -, rfl, rfl⟩
    · rw [lv_bar]; decide
    · rw [lv_recv]; split_ifs <;> omega
    · rw [lv_cred]; omega

theorem mayWait_bar (c : Dev nD) (T : ℕ) (hT : 1 ≤ T) :
    (levAts L lv : sProp 𝕄) ⊢ MayWait (c : Thread nD τ) (.reg barS) 0 (owedT c T) :=
  mayWait_of c _ 0 (by decide) T 1 (by rw [lv_bar]) fun g j hg => by
    rcases owedT_pos hg with ⟨h, rfl, rfl⟩ | ⟨k, -, rfl, rfl⟩ | ⟨j, -, rfl, rfl⟩
    · omega
    · rw [lv_recv]; split_ifs <;> omega
    · rw [lv_cred]; omega

theorem mayWait_recv (c : Dev nD) (k : Fin 4) (T : ℕ) (hT : tRecv k ≤ T) :
    (levAts L lv : sProp 𝕄) ⊢ MayWait (c : Thread nD τ) (.dma (recvS k)) 0 (owedT c T) :=
  mayWait_of c _ 0 (by decide) T (if k.val = 0 then 2 else if k.val = 1 then 4 else 4 + k.val) (by rw [lv_recv]) fun g j hg => by
    have hk := k.isLt
    unfold tRecv at hT
    rcases owedT_pos hg with ⟨h, rfl, rfl⟩ | ⟨k', h, rfl, rfl⟩ | ⟨j, h, rfl, rfl⟩
    · omega
    · have := k'.isLt
      unfold tSend at h
      rw [lv_recv]; split_ifs <;> omega
    · have := j.isLt
      unfold tCred at h
      rw [lv_cred]; split_ifs <;> omega

theorem mayWait_cred (c : Dev nD) (j : Fin 2) (T : ℕ) (hT : tCw j ≤ T) :
    (levAts L lv : sProp 𝕄) ⊢ MayWait (c : Thread nD τ) (.reg credS) j.val (owedT c T) :=
  mayWait_of c _ j.val (fin2_mem j) T (3 + 2 * j.val) (by rw [lv_cred]) fun g j' hg => by
    have hj := j.isLt
    unfold tCw at hT
    rcases owedT_pos hg with ⟨h, rfl, rfl⟩ | ⟨k', h, rfl, rfl⟩ | ⟨j', h, rfl, rfl⟩
    · omega
    · have := k'.isLt
      unfold tSend at h
      rw [lv_recv]; split_ifs <;> omega
    · have := j'.isLt
      unfold tCred at h
      rw [lv_cred]; omega

/-! Paying off. -/

theorem add_pay₁ {α : Type} [AddCommMonoid α] (a b c d : α) : a + (b + d + c) = a + (b + c) + d := by
  exact (congrArg _ (add_right_comm b d c)).trans (add_assoc a (b + c) d).symm
theorem add_pay₂ {α : Type} [AddCommMonoid α] (a b c d : α) : a + (b + (c + d)) = a + (b + c) + d := by
  rw [add_assoc, add_assoc]

theorem owedT_bar (c : Dev nD) : owedT c 0 = owedT c 1 + tallyAt (barC (peer c)) 0 1 := by
  have e : ∀ k : Fin 4, recvO c 0 k = recvO c 1 k := fun k => by
    unfold recvO tSend; rw [if_pos (by omega), if_pos (by omega)]
  have e' : ∀ j : Fin 2, credO c 0 j = credO c 1 j := fun j => by
    unfold credO tCred; rw [if_pos (by omega), if_pos (by omega)]
  unfold owedT
  rw [Finset.sum_congr rfl fun k _ => e k, Finset.sum_congr rfl fun j _ => e' j]
  unfold barO
  rw [if_pos (by omega), if_neg (by omega), zero_add, add_comm]

theorem owedT_send (c : Dev nD) (k : Fin 4) : owedT c (tSend k) = owedT c (tSend k + 1) + tallyAt (recvC (peer c) k) 0 N := by
  have hk := k.isLt
  have e : ∀ k' : Fin 4, recvO c (tSend k) k' = recvO c (tSend k + 1) k' + if k' = k then tallyAt (recvC (peer c) k) 0 N else 0 := fun k' => by
    by_cases h : k' = k
    · subst h; unfold recvO; rw [if_pos le_rfl, if_neg (by omega), if_pos rfl, zero_add]
    · rw [if_neg h, add_zero]
      have hne : k'.val ≠ k.val := fun e => h (Fin.ext e)
      unfold recvO tSend
      by_cases h' : k.val < k'.val
      · rw [if_pos (by omega), if_pos (by omega)]
      · rw [if_neg (by omega), if_neg (by omega)]
  have e' : ∀ j : Fin 2, credO c (tSend k) j = credO c (tSend k + 1) j := fun j => by
    have hj := j.isLt
    unfold credO tSend tCred
    by_cases h : 8 * (32 * k.val + 31) + 4 ≤ 8 * (32 * j.val + 63) + 6
    · rw [if_pos h, if_pos (by omega)]
    · rw [if_neg h, if_neg (by omega)]
  have e0 : barO c (tSend k) = barO c (tSend k + 1) := by
    unfold barO tSend; rw [if_neg (by omega), if_neg (by omega)]
  unfold owedT
  rw [Finset.sum_congr rfl fun k _ => e k, Finset.sum_congr rfl fun j _ => e' j, e0, Finset.sum_add_distrib, Finset.sum_ite_eq' Finset.univ k,
    if_pos (Finset.mem_univ _)]
  exact add_pay₁ _ _ _ _

theorem owedT_cred (c : Dev nD) (j : Fin 2) : owedT c (tCred j) = owedT c (tCred j + 1) + tallyAt (credC (peer c)) j.val 1 := by
  have hj := j.isLt
  have e : ∀ j' : Fin 2, credO c (tCred j) j' = credO c (tCred j + 1) j' + if j' = j then tallyAt (credC (peer c)) j.val 1 else 0 := fun j' => by
    by_cases h : j' = j
    · subst h; unfold credO; rw [if_pos le_rfl, if_neg (by omega), if_pos rfl, zero_add]
    · rw [if_neg h, add_zero]
      have hne : j'.val ≠ j.val := fun e => h (Fin.ext e)
      unfold credO tCred
      by_cases h' : j.val < j'.val
      · rw [if_pos (by omega), if_pos (by omega)]
      · rw [if_neg (by omega), if_neg (by omega)]
  have e' : ∀ k : Fin 4, recvO c (tCred j) k = recvO c (tCred j + 1) k := fun k => by
    have hk := k.isLt
    unfold recvO tSend tCred
    by_cases h : 8 * (32 * j.val + 63) + 6 ≤ 8 * (32 * k.val + 31) + 4
    · rw [if_pos h, if_pos (by omega)]
    · rw [if_neg h, if_neg (by omega)]
  have e0 : barO c (tCred j) = barO c (tCred j + 1) := by
    unfold barO tCred; rw [if_neg (by omega), if_neg (by omega)]
  unfold owedT
  rw [Finset.sum_congr rfl fun k _ => e' k, Finset.sum_congr rfl fun j _ => e j, e0, Finset.sum_add_distrib, Finset.sum_ite_eq' Finset.univ j,
    if_pos (Finset.mem_univ _)]
  exact add_pay₂ _ _ _ _

/-- A time at which nothing is paid. -/
theorem owedT_same (c : Dev nD) (T : ℕ) (h0 : T ≠ 0) (h1 : ∀ k : Fin 4, T ≠ tSend k) (h2 : ∀ j : Fin 2, T ≠ tCred j) :
    owedT c T = owedT c (T + 1) := by
  unfold owedT
  rw [show barO c T = barO c (T + 1) from by unfold barO; rw [if_neg (by omega), if_neg (by omega)],
    Finset.sum_congr rfl fun k _ => show recvO c T k = recvO c (T + 1) k from by
      have := h1 k
      unfold recvO
      by_cases h : T ≤ tSend k
      · rw [if_pos h, if_pos (by omega)]
      · rw [if_neg h, if_neg (by omega)],
    Finset.sum_congr rfl fun j _ => show credO c T j = credO c (T + 1) j from by
      have := h2 j
      unfold credO
      by_cases h : T ≤ tCred j
      · rw [if_pos h, if_pos (by omega)]
      · rw [if_neg h, if_neg (by omega)]]

theorem owedT_end (c : Dev nD) (T : ℕ) (h : 1280 ≤ T) : owedT c T = 0 := by
  unfold owedT barO
  rw [if_neg (by omega), Finset.sum_eq_zero fun k _ => by have := k.isLt; unfold recvO tSend; rw [if_neg (by omega)],
    Finset.sum_eq_zero fun j _ => by have := j.isLt; unfold credO tCred; rw [if_neg (by omega)], add_zero, add_zero]

end Cert.Exchange

end
-- ==== Proof.State.lean ====
/-
# `State`: what a device holds at each time

`St c T` is what device `c` holds before stage `T % 8` of grid point `T / 8`; each piece is a function of the time,
and stays as it is over a stage that does not concern it.
-/
module

public import proofs.«01_k».proof.Proof.Protocol

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The values -/

/-- Rows `128 * s ..` of device `c`'s logits of chunk `k`, as a sub-block is loaded. -/
def locv (c : Dev nD) (k : ℕ) (s : Fin 4) : FVec F S1x128x8192 .bf16 := fun j =>
  LBv m c k ⟨128 * s.val + (j 1).val, by have h : (j 1).val < 128 := (j 1).isLt; have := s.isLt; omega⟩ (j 2).val

/-- The exponentials of the own half, of the partner's. -/
def eA (c : Dev nD) (k : ℕ) (s : Fin 4) : FVec F S128x8192 .f32 := k0_pay4 (locv m c k s) (locv m (peer c) k s)
def eB (c : Dev nD) (k : ℕ) (s : Fin 4) : FVec F S128x8192 .f32 := k0_pay6 (k0_pay5 (locv m c k s) (locv m (peer c) k s))
/-- The result's own half and the partner's. -/
def paV (c : Dev nD) (k : ℕ) (s : Fin 4) : FVec F S128x8192 .f32 := k0_pay8 (eA m c k s) (eB m c k s) (eA m c k s)
def pbV (c : Dev nD) (k : ℕ) (s : Fin 4) : FVec F S128x8192 .f32 := k0_pay9 (eA m c k s) (eB m c k s) (eB m c k s)

def oix (r q : ℕ) : S128x8192.Idx := fun a => match a with
  | ⟨0, _⟩ => (⟨r % 128, Nat.mod_lt _ (by decide)⟩ : Fin 128)
  | ⟨1, _⟩ => (⟨q % 8192, Nat.mod_lt _ (by decide)⟩ : Fin 8192)

/-- Device `c`'s result. -/
def OutF (c : Dev nD) (j : S2048x16384.Idx) : Elt F .f32 :=
  if (j 1).val / 8192 = half c then
    paV m c ((j 0).val / 512) ⟨(j 0).val / 128 % 4, Nat.mod_lt _ (by decide)⟩ (oix (j 0).val (j 1).val)
  else pbV m c ((j 0).val / 512) ⟨(j 0).val / 128 % 4, Nat.mod_lt _ (by decide)⟩ (oix (j 0).val (j 1).val)

/-- The first `R` rows of the result are written. -/
def Done (c : Dev nD) (R : ℕ) (f : S2048x16384.Idx → Elt F .f32) : Prop :=
  ∀ j : S2048x16384.Idx, (j 0).val < R → f j = OutF m c j

abbrev locO (c : Dev nD) : Loc nD τ sig := (c : Thread nD τ).loc main_v1
abbrev locA (c : Dev nD) : Loc nD τ sig := (c : Thread nD τ).loc cc0_scratch2
abbrev locB (c : Dev nD) : Loc nD τ sig := (c : Thread nD τ).loc cc0_scratch3

/-! ## The pieces -/

section Pieces
variable (c : Dev nD) (T : ℕ)

/-- The entry handshake. -/
def barP : sProp 𝕄 :=
  if T ≤ 0 then iprop(atPos ER (barC c) 0 ∅ 0 ∗ dutyTok ER (barC (peer c)) 0 false ∗ cred (tallyAt (barC c) 0 1))
  else iprop(atPos ER (barC c) 1 ∅ 0 ∗ barPay c)

/-- Slot number and write number of chunk `k`. -/
def slotOf (k : Fin 4) : Fin 2 := ⟨k.val % 2, Nat.mod_lt _ (by decide)⟩

/-- The transfer of chunk `k`: the right to issue it, then its credit, then its consumed round. -/
def sendP (k : Fin 4) : sProp 𝕄 :=
  if T ≤ tSend k then iprop(dutyTok ER (sendC c k) 0 false ∗ dutyTok ER (recvC (peer c) k) 0 false
      ∗ writeTok ES (peer c, slotOf k) (k.val / 2 + 1) ∗ atPos ER (sendC c k) 0 ∅ 0)
  else if T ≤ tSw k then iprop(atPos ER (sendC c k) 0 ∅ 0 ∗ cred (tallyAt (sendC c k) 2 N))
  else atPos ER (sendC c k) 1 ∅ 0

/-- The arrival of the partner's chunk `k`. -/
def recvP (k : Fin 4) : sProp 𝕄 :=
  if T ≤ tRecv k then iprop(atPos ER (recvC c k) 0 ∅ 0 ∗ cred (tallyAt (recvC c k) 0 N)) else atPos ER (recvC c k) 1 ∅ 0

/-- Logits slot `s`: filled by chunk `s`, lent to its transfer, back, then the same with chunk `s + 2`. -/
def logP (s : Fin 2) : sProp 𝕄 :=
  if T ≤ tSend s then lsv m c fullShare s s (cnt s T)
  else if T ≤ tSw s then lsv m c fullShare.right s s 32
  else if T ≤ tSend (s + 2) then lsv m c fullShare (s + 2) s (cnt (s + 2) T)
  else if T ≤ tSw (s + 2) then lsv m c fullShare.right (s + 2) s 32
  else lsv m c fullShare (s + 2) s 0

/-- Landing slot `s`: at launch, between the arrival of chunk `s` and the slot's second release, after the arrival of chunk `s + 2`. -/
def landP (s : Fin 2) : sProp 𝕄 :=
  if T ≤ 0 then iprop(rsAny c s ∗ readerAt ES (c, s) 0)
  else if T ≤ tRecv s then readerAt ES (c, s) 1
  else if T ≤ tCred s then iprop(rsv m c s s ∗ readerAt ES (c, s) 1)
  else if T ≤ tRecv (s + 2) then iprop(readerAt ES (c, s) 2 ∗ released ES (c, s) 2)
  else iprop((readerAt ES (c, s) 2 ∗ released ES (c, s) 2) ∗ rsv m c (s + 2) s)

/-- The right to give the credit of slot `j`: the duty of the first is `false`, of the second `true`. -/
def giveP (j : Fin 2) : sProp 𝕄 := if T ≤ tCred j then dutyTok ER (credC (peer c)) 0 (decide (j.val = 1)) else iprop(emp)

/-- The credits to take. -/
def takeP : sProp 𝕄 :=
  if T ≤ tCw 0 then iprop(atPos ER (credC c) 0 ∅ 0 ∗ cred (tallyAt (credC c) 0 1) ∗ cred (tallyAt (credC c) 1 1))
  else if T ≤ tCw 1 then iprop((∃ S : Finset Bool, ⌜S.Nonempty⌝ ∗ atPos ER (credC c) 0 S 1 ∗ bigSep S (credPay (F := F) c)) ∗ cred (tallyAt (credC c) 1 1))
  else iprop(atPos ER (credC c) 1 ∅ 0 ∗ released ES (peer c, 0) 2 ∗ released ES (peer c, 1) 2)

/-- The result, the two staging buffers, the local transfers' counters. -/
def outP : sProp 𝕄 :=
  iprop((∃ f : Buf (Elt F) (locO c), ⌜Done m c (512 * cntOut T) f⌝ ∗ (locO c ↦{fullShare} f))
    ∗ (∃ f, locA c ↦{fullShare} f) ∗ (∃ f, locB c ↦{fullShare} f)
    ∗ semVal ((c : Thread nD τ), .dma (outS 0)) 0 ∗ semVal ((c : Thread nD τ), .dma (outS 1)) 0)

/-- What is owed. -/
def oweP : sProp 𝕄 := iprop(∃ W, owes (c : Thread nD τ) (owedT c T) W)

/-- All but what is owed. -/
def St : sProp 𝕄 :=
  iprop(barP c T ∗ bigSep Finset.univ (sendP c T) ∗ bigSep Finset.univ (recvP c T) ∗ bigSep Finset.univ (logP m c T)
    ∗ bigSep Finset.univ (landP m c T) ∗ bigSep Finset.univ (giveP c T) ∗ takeP c T ∗ outP m c T)

end Pieces

/-! ## Pieces that stay -/

section Same
variable (c : Dev nD) (T T' : ℕ)

theorem barP_same (h : T ≤ 0 ↔ T' ≤ 0) : barP (F := F) c T = barP c T' := by
  unfold barP; simp only [h]
theorem sendP_same (k : Fin 4) (h : T ≤ tSend k ↔ T' ≤ tSend k) (h' : T ≤ tSw k ↔ T' ≤ tSw k) : sendP (F := F) c T k = sendP c T' k := by
  unfold sendP; simp only [h, h']
theorem recvP_same (k : Fin 4) (h : T ≤ tRecv k ↔ T' ≤ tRecv k) : recvP (F := F) c T k = recvP c T' k := by
  unfold recvP; simp only [h]
theorem logP_same (s : Fin 2) (h : T ≤ tSend s ↔ T' ≤ tSend s) (h' : T ≤ tSw s ↔ T' ≤ tSw s) (h1 : T ≤ tSend (s + 2) ↔ T' ≤ tSend (s + 2))
    (h1' : T ≤ tSw (s + 2) ↔ T' ≤ tSw (s + 2)) (hc : T ≤ tSend s → cnt s T = cnt s T')
    (hc' : ¬ T ≤ tSw s → T ≤ tSend (s + 2) → cnt (s + 2) T = cnt (s + 2) T') : logP m c T s = logP m c T' s := by
  unfold logP
  by_cases a : T ≤ tSend s
  · rw [if_pos a, if_pos (h.mp a), hc a]
  rw [if_neg a, if_neg (mt h.mpr a)]
  by_cases b : T ≤ tSw s
  · rw [if_pos b, if_pos (h'.mp b)]
  rw [if_neg b, if_neg (mt h'.mpr b)]
  by_cases d : T ≤ tSend (s + 2)
  · rw [if_pos d, if_pos (h1.mp d), hc' b d]
  rw [if_neg d, if_neg (mt h1.mpr d)]
  simp only [h1']
theorem landP_same (s : Fin 2) (h : T ≤ 0 ↔ T' ≤ 0) (h1 : T ≤ tRecv s ↔ T' ≤ tRecv s) (h2 : T ≤ tCred s ↔ T' ≤ tCred s)
    (h3 : T ≤ tRecv (s + 2) ↔ T' ≤ tRecv (s + 2)) : landP m c T s = landP m c T' s := by
  unfold landP; simp only [h, h1, h2, h3]
theorem giveP_same (j : Fin 2) (h : T ≤ tCred j ↔ T' ≤ tCred j) : giveP (F := F) c T j = giveP c T' j := by
  unfold giveP; simp only [h]
theorem takeP_same (h : T ≤ tCw 0 ↔ T' ≤ tCw 0) (h' : T ≤ tCw 1 ↔ T' ≤ tCw 1) : takeP (F := F) c T = takeP c T' := by
  unfold takeP; simp only [h, h']
theorem outP_same (h : cntOut T = cntOut T') : outP m c T = outP m c T' := by
  unfold outP; rw [h]

end Same

/-! ## The persistent facts -/

/-- The cells of the rounds on a device. -/
def csem (j : Fin 10) : SemLoc sig :=
  if j.val = 0 then .reg barS else if j.val = 9 then .reg credS
  else .dma ⟨3 + j.val, by have := j.isLt; show _ < 14; omega⟩

abbrev cellAt (c : Dev nD) (j : Fin 10) : GSem nD τ sig := ((c : Thread nD τ), csem j)

def jSend (k : Fin 4) : Fin 10 := ⟨1 + k.val, by have := k.isLt; omega⟩
def jRecv (k : Fin 4) : Fin 10 := ⟨5 + k.val, by have := k.isLt; omega⟩

theorem cell_bar (c : Dev nD) : cellAt c 0 = barC c := rfl
theorem cell_cred (c : Dev nD) : cellAt c 9 = credC c := rfl
theorem csem_send : ∀ k : Fin 4, csem (jSend k) = .dma (sendS k) := by decide
theorem csem_recv : ∀ k : Fin 4, csem (jRecv k) = .dma (recvS k) := by decide

variable (K : Dev nD × Fin 10 → ℕ) (Ks : Slot → ℕ)

/-- One cell's invariant and first round; one slot's invariant. -/
def cellF (x : Dev nD × Fin 10) : sProp 𝕄 := iprop(cellInv ER (Rd m) (K x) (cellAt x.1 x.2) ∗ reached ER (cellAt x.1 x.2) 0)
def slotF (x : Slot) : sProp 𝕄 := slotInv ES (Ks x) x (rsAny (F := F) x.1 x.2.val)

instance cellF_pers (x : Dev nD × Fin 10) : BI.Persistent (cellF m K x) := by unfold cellF; infer_instance
instance slotF_pers (x : Slot) : BI.Persistent (slotF (F := F) Ks x) := by unfold slotF; infer_instance

/-- All of them, and the levels. -/
def Facts : sProp 𝕄 := iprop(bigSep Finset.univ (cellF m K) ∗ bigSep Finset.univ (slotF (F := F) Ks) ∗ levAts L lv)

instance Facts_pers : BI.Persistent (Facts m K Ks) := by unfold Facts; infer_instance

theorem facts_cell (x : Dev nD × Fin 10) : Facts m K Ks ⊢ cellF m K x := by
  unfold Facts; exact sep_elim_left.trans (bigSep_elim (Finset.mem_univ x))
theorem facts_slot (x : Slot) : Facts m K Ks ⊢ slotF (F := F) Ks x := by
  unfold Facts; exact sep_elim_right.trans (sep_elim_left.trans (bigSep_elim (Finset.mem_univ x)))
theorem facts_lev : Facts m K Ks ⊢ (levAts L lv : sProp 𝕄) := by
  unfold Facts; iintro ⟨-, -, #H⟩; iexact H

theorem facts_bar (c : Dev nD) : Facts m K Ks ⊢ iprop(cellInv ER (Rd m) (K (c, 0)) (barC c) ∗ reached ER (barC c) 0) := facts_cell m K Ks (c, 0)
theorem facts_cred (c : Dev nD) : Facts m K Ks ⊢ iprop(cellInv ER (Rd m) (K (c, 9)) (credC c) ∗ reached ER (credC c) 0) := facts_cell m K Ks (c, 9)
theorem facts_send (c : Dev nD) (k : Fin 4) :
    Facts m K Ks ⊢ iprop(cellInv ER (Rd m) (K (c, jSend k)) (sendC c k) ∗ reached ER (sendC c k) 0) := by
  have := facts_cell m K Ks (c, jSend k)
  unfold cellF at this
  rwa [show cellAt (c, jSend k).1 (c, jSend k).2 = sendC c k from by show (_, csem (jSend k)) = _; rw [csem_send]] at this
theorem facts_recv (c : Dev nD) (k : Fin 4) :
    Facts m K Ks ⊢ iprop(cellInv ER (Rd m) (K (c, jRecv k)) (recvC c k) ∗ reached ER (recvC c k) 0) := by
  have := facts_cell m K Ks (c, jRecv k)
  unfold cellF at this
  rwa [show cellAt (c, jRecv k).1 (c, jRecv k).2 = recvC c k from by show (_, csem (jRecv k)) = _; rw [csem_recv]] at this

end Cert.Exchange

end
-- ==== Proof.Stages.lean ====
/-
# `Stages`: the exchange, stage by stage

For each stage of a grid point but the softmax: from what the device holds before it to what it holds after.
-/
module

public import proofs.«01_k».proof.Proof.State

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-! ## Over a time that is not theirs the pieces stay -/

section Succ
variable (c : Dev nD) (T : ℕ)

theorem barP_succ (h : T ≠ 0) : barP (F := F) c T = barP c (T + 1) := barP_same c T _ (by omega)
theorem sendP_succ (k : Fin 4) (h : T ≠ 8 * (32 * k.val + 31) + 4) (h' : k.val < 2 → T ≠ 8 * (32 * k.val + 64) + 1) (h'' : T ≠ 1279) :
    sendP (F := F) c T k = sendP c (T + 1) k :=
  sendP_same c T _ k (by unfold tSend; omega) (by unfold tSw; split <;> omega)
theorem recvP_succ (k : Fin 4) (h : T ≠ 8 * (32 * k.val + 63) + 5) : recvP (F := F) c T k = recvP c (T + 1) k :=
  recvP_same c T _ k (by unfold tRecv; omega)
theorem logP_succ (s : Fin 2) (h : T ≠ 8 * (32 * s.val + 31) + 4) (h' : T ≠ 8 * (32 * s.val + 64) + 1)
    (h1 : T ≠ 8 * (32 * (s.val + 2) + 31) + 4) (h'' : T ≠ 1279)
    (hm : T % 8 ≠ 2 ∨ ¬ (256 * s.val ≤ T ∧ T ≤ 8 * (32 * s.val + 31) + 4 ∨ 256 * (s.val + 2) ≤ T ∧ T ≤ 8 * (32 * (s.val + 2) + 31) + 4)) :
    logP m c T s = logP m c (T + 1) s := by
  have hs := s.isLt
  refine logP_same m c T _ s (by unfold tSend; omega) (by unfold tSw; split <;> omega) (by unfold tSend; omega) (by unfold tSw; split <;> omega) ?_ ?_
  · intro a; unfold tSend at a; unfold cnt; omega
  · intro _ a; unfold tSend at a; unfold cnt; omega
theorem landP_succ (s : Fin 2) (h : T ≠ 0) (h1 : T ≠ 8 * (32 * s.val + 63) + 5) (h2 : T ≠ 8 * (32 * s.val + 63) + 6)
    (h3 : T ≠ 8 * (32 * (s.val + 2) + 63) + 5) : landP m c T s = landP m c (T + 1) s :=
  landP_same m c T _ s (by omega) (by unfold tRecv; omega) (by unfold tCred; omega) (by unfold tRecv; omega)
theorem giveP_succ (j : Fin 2) (h : T ≠ 8 * (32 * j.val + 63) + 6) : giveP (F := F) c T j = giveP c (T + 1) j :=
  giveP_same c T _ j (by unfold tCred; omega)
theorem takeP_succ (h : T ≠ 763) (h' : T ≠ 1019) : takeP (F := F) c T = takeP c (T + 1) :=
  takeP_same c T _ (by unfold tCw; omega) (by unfold tCw; omega)
theorem outP_succ (h : T % 256 ≠ 253 ∨ T = 253) : outP m c T = outP m c (T + 1) := outP_same m c T _ (by unfold cntOut; omega)
theorem oweP_succ (h0 : T ≠ 0) (h1 : ∀ k : Fin 4, T ≠ 8 * (32 * k.val + 31) + 4) (h2 : ∀ j : Fin 2, T ≠ 8 * (32 * j.val + 63) + 6) :
    oweP (F := F) c T = oweP c (T + 1) := by
  unfold oweP; rw [owedT_same c T h0 h1 h2]

theorem sends_succ (h : ∀ k : Fin 4, T ≠ 8 * (32 * k.val + 31) + 4 ∧ (k.val < 2 → T ≠ 8 * (32 * k.val + 64) + 1) ∧ T ≠ 1279) :
    bigSep Finset.univ (sendP (F := F) c T) = bigSep Finset.univ (sendP c (T + 1)) :=
  bigSep_congr fun k _ => sendP_succ c T k (h k).1 (h k).2.1 (h k).2.2
theorem recvs_succ (h : ∀ k : Fin 4, T ≠ 8 * (32 * k.val + 63) + 5) :
    bigSep Finset.univ (recvP (F := F) c T) = bigSep Finset.univ (recvP c (T + 1)) :=
  bigSep_congr fun k _ => recvP_succ c T k (h k)
theorem logs_succ (h : ∀ k : Fin 4, T ≠ 8 * (32 * k.val + 31) + 4 ∧ (k.val < 2 → T ≠ 8 * (32 * k.val + 64) + 1) ∧ T ≠ 1279) (hm : T % 8 ≠ 2 ∨ 1024 ≤ T) :
    bigSep Finset.univ (logP m c T) = bigSep Finset.univ (logP m c (T + 1)) :=
  bigSep_congr fun s _ => by
    have hs := s.isLt
    have h1 := h ⟨s.val, by omega⟩
    have h2 := h ⟨s.val + 2, by omega⟩
    dsimp only at h1 h2
    exact logP_succ m c T s h1.1 (h1.2.1 hs) h2.1 h1.2.2 (by omega)
theorem lands_succ (h0 : T ≠ 0) (h : ∀ k : Fin 4, T ≠ 8 * (32 * k.val + 63) + 5) (h' : ∀ j : Fin 2, T ≠ 8 * (32 * j.val + 63) + 6) :
    bigSep Finset.univ (landP m c T) = bigSep Finset.univ (landP m c (T + 1)) :=
  bigSep_congr fun s _ => by
    have hs := s.isLt
    exact landP_succ m c T s h0 (h ⟨s.val, by omega⟩) (h' s) (h ⟨s.val + 2, by omega⟩)
theorem gives_succ (h' : ∀ j : Fin 2, T ≠ 8 * (32 * j.val + 63) + 6) :
    bigSep Finset.univ (giveP (F := F) c T) = bigSep Finset.univ (giveP c (T + 1)) :=
  bigSep_congr fun j _ => giveP_succ c T j (h' j)

/-- A time at which nothing happens. -/
theorem St_succ (h0 : T ≠ 0) (hs : ∀ k : Fin 4, T ≠ 8 * (32 * k.val + 31) + 4 ∧ (k.val < 2 → T ≠ 8 * (32 * k.val + 64) + 1) ∧ T ≠ 1279)
    (hr : ∀ k : Fin 4, T ≠ 8 * (32 * k.val + 63) + 5) (hc : ∀ j : Fin 2, T ≠ 8 * (32 * j.val + 63) + 6) (hw : T ≠ 763) (hw' : T ≠ 1019)
    (hm : T % 8 ≠ 2 ∨ 1024 ≤ T) (ho : T % 256 ≠ 253 ∨ T = 253) : iprop(St m c T ∗ oweP c T) = iprop(St m c (T + 1) ∗ oweP c (T + 1)) := by
  unfold St
  rw [barP_succ c T h0, sends_succ c T hs, recvs_succ c T hr, logs_succ m c T hs hm, lands_succ m c T h0 hr hc, gives_succ c T hc,
    takeP_succ c T hw hw', outP_succ m c T ho, oweP_succ c T h0 (fun k => (hs k).1) hc]

end Succ

section Stage
variable (K : Dev nD × Fin 10 → ℕ) (Ks : Slot → ℕ) (c : Dev nD) (i : grid0.Coords) (n : ℕ)

/-- What a stage starts from: the facts, the state, and the goal once the next state is reached. -/
def stagePre (T : ℕ) (R : sProp 𝕄) : sProp 𝕄 :=
  iprop(Facts m K Ks ∗ (St m c T ∗ oweP c T) ∗ ((St m c (T + 1) ∗ oweP c (T + 1)) -∗ R))

theorem slot_excl (c : Dev nD) (s : ℕ) (h : s < 2) : iprop(rsAny (F := F) c s ∗ rsAny c s) ⊢ (False : sProp 𝕄) :=
  Release.slot_slot_false (ℓ := locR c) (I := slotSet s) ⟨(fun a => match a with
    | ⟨0, _⟩ => (⟨s, h⟩ : Fin 2) | ⟨1, _⟩ => (⟨0, by decide⟩ : Fin 512) | ⟨2, _⟩ => (⟨0, by decide⟩ : Fin 8192) : S2x512x8192.Idx),
    mem_slotSet.mpr rfl⟩

set_option maxHeartbeats 800000 in
/-- The entry handshake: at the first point the two landing slots are released and the partner told. -/
theorem stage0 (h0 : (i 0).val = n / 32) (h1 : (i 1).val = n % 32) (hn : n < 160) (Kt : PUnit → sProp 𝕄) :
    stagePre m K Ks c (8 * n) (Kt ⟨⟩) ⊢ wp frame (wpE (defs₀ (F := F)) 𝒱₀ (c : Thread nD τ) none) Set.univ
      (if k0_h1 : k0_cond1 i = 1#1 then (do
        semSignalWord (⟨k0_dev1 c, k0_dev1_lt i c k0_h1⟩ : Dev nD) barS 1#32
        semWaitWord barS 1#32
        pure ⟨⟩) else (do pure ⟨⟩)) Kt := by
  unfold stagePre
  by_cases hc : k0_cond1 i = 1#1
  · rw [dif_pos hc]
    obtain ⟨ha, hb⟩ := (cond1_iff i).mp hc
    obtain rfl : n = 0 := by omega
    simp only [semSignalWord, semWaitWord, Prog.lift, Prog.bind_op, Prog.bind_ret, Prog.pure_eq_ret, dev1_eq c]
    unfold St
    rw [← sends_succ c (8 * 0) (by omega), ← recvs_succ c (8 * 0) (by omega), ← logs_succ m c (8 * 0) (by omega) (by omega),
      ← gives_succ c (8 * 0) (by omega), ← takeP_succ c (8 * 0) (by omega) (by omega), ← outP_succ m c (8 * 0) (by omega),
      bigSep_univ_two (landP m c (8 * 0)), bigSep_univ_two (landP m c (8 * 0 + 1))]
    unfold barP landP
    simp only [if_pos (show 8 * 0 ≤ 0 by omega), if_neg (show ¬ 8 * 0 + 1 ≤ 0 by omega)]
    rw [if_pos (show 8 * 0 + 1 ≤ tRecv (0 : Fin 2) by unfold tRecv; omega), if_pos (show 8 * 0 + 1 ≤ tRecv (1 : Fin 2) by unfold tRecv; omega)]
    iintro ⟨#HF, ⟨⟨⟨Hat, Htok, Hcr⟩, Hse, Hre, Hlo, ⟨⟨Hs0, Hr0⟩, ⟨Hs1, Hr1⟩⟩, Hgi, Hta, Hou⟩, HO⟩, Hk⟩
    ihave #Hi0 := (facts_slot m K Ks (c, 0)) $$ HF
    ihave #Hi1 := (facts_slot m K Ks (c, 1)) $$ HF
    ihave #⟨Hib, -⟩ := (facts_bar m K Ks c) $$ HF
    ihave #⟨Hip, Hrp⟩ := (facts_bar m K Ks (peer c)) $$ HF
    unfold slotF
    imod (slot_release ES (Set.mem_univ (Ks (c, 0))) (slot_excl c 0 (by decide)) 0) $$ [Hs0 Hr0] with ⟨Hr0, #HR0⟩
    · isplitr; · iexact Hi0
      isplitl [Hr0]; · iexact Hr0
      iexact Hs0
    imod (slot_release ES (Set.mem_univ (Ks (c, 1))) (slot_excl c 1 (by decide)) 0) $$ [Hs1 Hr1] with ⟨Hr1, #HR1⟩
    · isplitr; · iexact Hi1
      isplitl [Hr1]; · iexact Hr1
      iexact Hs1
    unfold oweP
    icases HO with ⟨%W, HO⟩
    iapply (Rounds.wp_signal 𝒱₀ ER (Rd m) (c : Thread nD τ) none (dst := (peer c : Thread nD τ)) (κ := K (peer c, 0))
      (d := false) (by rw [duties_bar]; exact Finset.mem_singleton_self _) ((amount_reg m (peer c) barS 0 false).trans (by decide)) 0 (owedT c 1) (owedT_bar c))
      $$ [HO Htok]
    · isplitr; · iexact Hip
      isplitl [HO]; · iexact HO
      isplitl [Htok]; · iexact Htok
      isplitr
      · rw [payload_bar]; unfold barPay; rw [peer_peer]
        isplitr; · iexact HR0
        iexact HR1
      iexact Hrp
    iintro HO
    iapply (Rounds.wp_wait_rest_token 𝒱₀ ER (Rd m) (c : Thread nD τ) none (κ := K (c, 0))
      (wpE_semWait_eq 𝒱₀ (c : Thread nD τ) none Set.univ) (Set.mem_univ _) 0 (O := owedT c 1) (W := W) (R := 0) (m := 0) (T := ∅)
      (by rw [expect_bar]; decide)) $$ [Hcr HO Hat]
    · isplitr; · iexact Hib
      isplitl [Hcr]; · iexact Hcr
      isplitl [HO]; · iexact HO
      isplitr; · iapply (mayWait_bar c 1 le_rfl); iapply (facts_lev m K Ks); iexact HF
      iexact Hat
    iintro ⟨HO, Hat, -, Hpay⟩
    ihave Hp := (Entails.of_eq (rest_bar m c)) $$ Hpay
    rw [wp_ret]; imodintro
    iapply Hk
    isplitr [HO]
    · isplitl [Hat Hp]
      · isplitl [Hat]; · iexact Hat
        iexact Hp
      isplitl [Hse]; · iexact Hse
      isplitl [Hre]; · iexact Hre
      isplitl [Hlo]; · iexact Hlo
      isplitl [Hr0 Hr1]
      · isplitl [Hr0]; · iexact Hr0
        iexact Hr1
      isplitl [Hgi]; · iexact Hgi
      isplitl [Hta]; · iexact Hta
      iexact Hou
    · iexists _; iexact HO
  · rw [dif_neg hc]
    have hne : n ≠ 0 := fun h => hc ((cond1_iff i).mpr ⟨by omega, by omega⟩)
    rw [← St_succ m c (8 * n) (by omega) (by omega) (by omega) (by omega) (by omega) (by omega) (by omega) (by omega)]
    rw [Prog.pure_eq_ret, wp_ret]
    iintro ⟨-, HS, Hk⟩
    imodintro
    iapply Hk; iexact HS

/-- Two halves of a slot make the slot. -/
theorem lsv_join (k s b k' b' k2 : ℕ) : iprop(lsv m c fullShare.left k s b ∗ lsv m c fullShare.right k' s b') ⊢ lsv m c fullShare k2 s 0 := by
  unfold lsv
  iintro ⟨⟨%f, %hf, H1⟩, ⟨%g, %hg, H2⟩⟩
  icombine H1 H2 gives %hag
  ihave H2 := (Entails.of_eq (pointsTo_congr (q := fullShare.right) (f := g) (g := f) fun j hj => ((hag j (Finset.mem_inter.mpr ⟨hj, hj⟩)).1).symm)) $$ H2
  iexists f
  isplitr; · ipureintro; intro j _ h; exact absurd h (by omega)
  iapply (pointsTo_share (PosShare.mem_left_op_right fullShare)).2
  isplitl [H1]; · iexact H1
  iexact H2

theorem sendP_mid (T : ℕ) (k : Fin 4) (h : 8 * (32 * k.val + 31) + 4 < T) (h' : T ≤ tSw k) :
    sendP (F := F) c T k = iprop(atPos ER (sendC c k) 0 ∅ 0 ∗ cred (tallyAt (sendC c k) 2 N)) := by
  unfold sendP; rw [if_neg (by unfold tSend; omega), if_pos h']
theorem sendP_end (T : ℕ) (k : Fin 4) (h : 8 * (32 * k.val + 31) + 4 < T) (h' : ¬ T ≤ tSw k) :
    sendP (F := F) c T k = atPos ER (sendC c k) 1 ∅ 0 := by
  unfold sendP; rw [if_neg (by unfold tSend; omega), if_neg h']

/-- A wait that takes a transfer's own read back. -/
theorem wait_send (k : Fin 4) (T : ℕ) {α : Type} {Q : α → sProp 𝕄} {kk : PUnit → Prog (TpuEff nD τ sig (Elt F) Λ₀ .tc) α}
    (off : Fin 3 → ℕ) (h) {h1 h2} :
    iprop(Facts m K Ks ∗ (atPos ER (sendC c k) 0 ∅ 0 ∗ cred (tallyAt (sendC c k) 2 N)) ∗ oweP c T)
      ⊢ iprop(((atPos ER (sendC c k) 1 ∅ 0 ∗ lsv m c fullShare.left k.val (k.val % 2) 32 ∗ oweP c T)
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.waitDma2 (sendS k) (slotR off h) (slotL off h) h1 h2) kk) Q) := by
  unfold oweP
  iintro ⟨#HF, ⟨Hat, Hcr⟩, ⟨%W, HO⟩⟩ Hk
  ihave #⟨Hib, -⟩ := (facts_send m K Ks c k) $$ HF
  iapply (Rounds.wp_wait_rest_token 𝒱₀ ER (Rd m) (c : Thread nD τ) none (κ := K (c, jSend k))
    (wpE_waitDma2_eq 𝒱₀ (c : Thread nD τ) none Set.univ) (Set.mem_univ _) 2 (O := owedT c T) (W := W) (R := 0) (m := 0) (T := ∅)
    (by rw [expect_send, creditL, Nat.zero_add])) $$ [Hcr HO Hat]
  · isplitr; · iexact Hib
    isplitl [Hcr]; · iexact Hcr
    isplitl [HO]; · iexact HO
    isplitr; · iapply (mayWait_two c _ T); iapply (facts_lev m K Ks); iexact HF
    iexact Hat
  iintro ⟨HO, Hat, -, Hpay⟩
  ihave Hp := (Entails.of_eq (rest_send m c k)) $$ Hpay
  iapply Hk
  isplitl [Hat]; · iexact Hat
  isplitl [Hp]; · iexact Hp
  iexists _; iexact HO

set_option maxHeartbeats 800000 in
/-- The wait that gives logits slot `k` back before chunk `k + 2` is computed into it. -/
theorem stage1 (h0 : (i 0).val = n / 32) (h1 : (i 1).val = n % 32) (hn : n < 160) (Kt : PUnit → sProp 𝕄) :
    stagePre m K Ks c (8 * n + 1) (Kt ⟨⟩) ⊢ wp frame (wpE (defs₀ (F := F)) 𝒱₀ (c : Thread nD τ) none) Set.univ
      (if k0_h2 : k0_cond2 i = 1#1 then (do
        Prog.lift (.waitDma2 (((cc0_scratch4 : DmaSems sig S4).slice (Rect.unit (s := S4) (k0_off1 i) S1.size (k0_off1_inb i k0_h2))).squeeze S_ squeezes_S1_S_).sem
          (slotR (k0_off2 i) (k0_off2_inb i k0_h2)) (slotL (k0_off2 i) (k0_off2_inb i k0_h2))
          (((Memref.isWhole_whole cc0_scratch1).wordExact_slice rfl _ (k0_off2_wordsbf16 i k0_h2)).reshape _ _)
          (((Memref.isWhole_whole cc0_scratch0).wordExact_slice rfl _ (k0_off2_wordsbf16 i k0_h2)).reshape _ _))
        pure ⟨⟩) else (do pure ⟨⟩)) Kt := by
  unfold stagePre
  by_cases hc : k0_cond2 i = 1#1
  · rw [dif_pos hc]
    obtain ⟨ha, hb, hb'⟩ := (cond2_iff i).mp hc
    obtain ⟨k, rfl⟩ : ∃ k : Fin 2, n = 32 * (k.val + 2) := ⟨⟨n / 32 - 2, by omega⟩, by dsimp only; omega⟩
    have hk := k.isLt
    have hk4 : k.val < 4 := by omega
    have hT : 8 * (32 * (k.val + 2)) + 1 = 8 * (32 * k.val + 64) + 1 := by omega
    rw [sendS_eq (k0_off1 i) _ ⟨k.val, hk4⟩ (by rw [off1_eq i hc, show (i 0).val - 2 = k.val from by omega])]
    simp only [Prog.lift, Prog.bind_op, Prog.bind_ret, Prog.pure_eq_ret]
    rw [hT]
    generalize hTT : 8 * (32 * k.val + 64) + 1 = T
    unfold St
    rw [← barP_succ c T (by omega), ← recvs_succ c T (by omega), ← lands_succ m c T (by omega) (by omega) (by omega), ← gives_succ c T (by omega),
      ← takeP_succ c T (by omega) (by omega), ← outP_succ m c T (by omega), ← oweP_succ c T (by omega) (by omega) (by omega)]
    iintro ⟨#HF, ⟨⟨Hbar, Hse, Hre, Hlo, Hla, Hgi, Hta, Hou⟩, HO⟩, Hk⟩
    ihave Hse := (bigSep_univ_update (Φ := sendP c T) (Ψ := sendP c (T + 1)) (⟨k.val, hk4⟩ : Fin 4) (fun j hj => by
      have hv : j.val ≠ k.val := fun e => hj (Fin.ext e)
      exact (sendP_succ c T j (by omega) (by omega) (by omega)).symm)) $$ Hse
    icases Hse with ⟨Hs, Hse⟩
    ihave Hlo := (bigSep_univ_update (Φ := logP m c T) (Ψ := logP m c (T + 1)) k (fun j hj => by
      have hv : j.val ≠ k.val := fun e => hj (Fin.ext e)
      exact (logP_succ m c T j (by omega) (by omega) (by omega) (by omega) (by omega)).symm)) $$ Hlo
    icases Hlo with ⟨Hl, Hlo⟩
    ihave Hs := (Entails.of_eq (sendP_mid c T ⟨k.val, hk4⟩ (by dsimp only; omega) (by unfold tSw; dsimp only; rw [if_pos hk]; omega))) $$ Hs
    iapply (wait_send m K Ks c ⟨k.val, hk4⟩ T (k0_off2 i) _) $$ [Hs HO]
    · isplitr; · iexact HF
      isplitl [Hs]; · iexact Hs
      iexact HO
    iintro ⟨Hat, Hp, HO⟩
    rw [wp_ret]; imodintro
    iapply Hk
    isplitr [HO]
    · isplitl [Hbar]; · iexact Hbar
      isplitl [Hse Hat]
      · iapply Hse
        iapply (Entails.of_eq (sendP_end c (T + 1) ⟨k.val, hk4⟩ (by dsimp only; omega) (by unfold tSw; dsimp only; rw [if_pos hk]; omega)).symm)
        iexact Hat
      isplitl [Hre]; · iexact Hre
      isplitl [Hlo Hl Hp]
      · iapply Hlo
        have e : logP m c T k = lsv m c fullShare.right k k 32 := by
          unfold logP; rw [if_neg (by unfold tSend; omega), if_pos (by unfold tSw; rw [if_pos hk]; omega)]
        have e' : logP m c (T + 1) k = lsv m c fullShare (k + 2) k 0 := by
          unfold logP
          rw [if_neg (by unfold tSend; omega), if_neg (by unfold tSw; rw [if_pos hk]; omega), if_pos (by unfold tSend; omega),
            show cnt (k.val + 2) (T + 1) = 0 from by unfold cnt; omega]
        rw [e']
        iapply (lsv_join m c k.val k.val 32 k.val 32 (k.val + 2))
        isplitl [Hp]
        · rw [show k.val % 2 = k.val from by omega]; iexact Hp
        · iapply (Entails.of_eq e); iexact Hl
      isplitl [Hla]; · iexact Hla
      isplitl [Hgi]; · iexact Hgi
      isplitl [Hta]; · iexact Hta
      iexact Hou
    · iexact HO
  · rw [dif_neg hc]
    have hne : ¬ (n % 32 = 0 ∧ 2 ≤ n / 32 ∧ n / 32 < 4) := fun h => hc ((cond2_iff i).mpr ⟨by omega, by omega, by omega⟩)
    rw [← St_succ m c (8 * n + 1) (by omega) (by omega) (by omega) (by omega) (by omega) (by omega) (by omega) (by omega)]
    rw [Prog.pure_eq_ret, wp_ret]
    iintro ⟨-, HS, Hk⟩
    imodintro
    iapply Hk; iexact HS

end Stage

end Cert.Exchange

end
-- ==== Proof.Stages2.lean ====
/-
# `Stages2`: the product, the transfer and the last waits
-/
module

public import proofs.«01_k».proof.Proof.Stages

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Stage
variable (K : Dev nD × Fin 10 → ℕ) (Ks : Slot → ℕ) (c : Dev nD) (i : grid0.Coords) (n : ℕ)

/-! ## The product -/

/-- A whole memref loaded at once. -/
theorem load_owns {s : Shape} {e : EltTy} (a : Memref sig .tc .vmem s e) (off : Fin s.rank → ℕ) (inb) (X : s.Idx → Elt F e) {hl}
    {α : Type} {Q : α → sProp 𝕄} {kk : (s.Idx → Elt F e) → Prog (TpuEff nD τ sig (Elt F) Λ₀ .tc) α} :
    (owns (c : Thread nD τ) a fullShare X : sProp 𝕄)
      ⊢ iprop((owns (c : Thread nD τ) a fullShare X -∗ wp frame (wpE (defs₀ (F := F)) 𝒱₀ (c : Thread nD τ) none) Set.univ (kk X) Q)
        -∗ wp frame (wpE (defs₀ (F := F)) 𝒱₀ (c : Thread nD τ) none) Set.univ
          (.op (.load a (Rect.unit (s := s) off s.size inb).toLoadRect hl) kk) Q) := by
  unfold owns
  iintro ⟨%f, %hf, H⟩ Hk
  iapply (wp_load 𝒱₀ (c : Thread nD τ) none Set.univ (m := a) (View.setOn_subset_set _ _)) $$ H
  iintro H
  have e : a.view.readAt (Elt F) (Rect.unit (s := s) off s.size inb).toLoadRect f = X := by
    rw [← hf]; funext x
    rw [View.readAt_rect]
    show a.view.read (Elt F) f ((Rect.unit (s := s) off s.size inb).emb x) = _
    refine congrArg (a.view.read (Elt F) f) (funext fun b => Fin.ext ?_)
    have hb := inb b
    show off b + 1 * (x b).val = (x b).val
    omega
  rw [e]
  iapply Hk
  iexists f
  isplitr; · ipureintro; exact hf
  iexact H

/-- The block a product is stored to lies in its slot. -/
theorem block_sub (s b : ℕ) (off : Fin 3 → ℕ) (inb) (e : off = ![s, 0, 256 * b]) :
    (Rect.unit (s := S2x512x8192) off S1x512x256.size inb).set ⊆ slotSet s := by
  subst e
  intro j hj
  rw [Rect.mem_set_unit] at hj
  have h := hj 0
  have e : S1x512x256.size 0 = 1 := rfl
  have h' : s ≤ (j 0).val ∧ (j 0).val < s + 1 := h
  exact mem_slotSet.mpr (by omega)

/-- Storing block `b` of chunk `k` fills one block more. -/
theorem filled_store (c : Dev nD) (k s b : ℕ) (off : Fin 3 → ℕ) (inb) (e : off = ![s, 0, 256 * b])
    (f : S2x512x8192.Idx → Elt F .bf16) (hf : Filled m c k s b f) (w : FVec F S1x512x256 .bf16) (hw : w = payT m c (pt (32 * k + b))) :
    Filled m c k s (b + 1) (((Memref.whole cc0_scratch0 : Memref sig .tc .vmem S2x512x8192 .bf16).access
      (Rect.unit (s := S2x512x8192) off S1x512x256.size inb)).write (Elt F) f w Finset.univ) := by
  subst e
  intro j hj hq
  have hset : ((Memref.whole cc0_scratch0 : Memref sig .tc .vmem S2x512x8192 .bf16).access
      (Rect.unit (s := S2x512x8192) ![s, 0, 256 * b] S1x512x256.size inb)).set = (Rect.unit (s := S2x512x8192) ![s, 0, 256 * b] S1x512x256.size inb).set :=
    View.set_slice_whole _ _
  by_cases hlt : (j 2).val < 256 * b
  · rw [View.write_of_not_mem]
    · exact hf j hj hlt
    · rw [View.setOn_univ, hset, Rect.mem_set_unit]
      intro h
      have h' : 256 * b ≤ (j 2).val ∧ (j 2).val < 256 * b + 256 := h 2
      omega
  · have h1 : (j 1).val < 512 := (j 1).isLt
    have hj' : ((Memref.whole cc0_scratch0 : Memref sig .tc .vmem S2x512x8192 .bf16).access
      (Rect.unit (s := S2x512x8192) ![s, 0, 256 * b] S1x512x256.size inb)).emb (tix (j 1) (j 2).val) = j := by
      funext a
      apply Fin.ext
      fin_cases a
      · show s + 1 * 0 = (j 0).val; omega
      · show 0 + 1 * (j 1).val = (j 1).val; omega
      · show 256 * b + 1 * ((j 2).val % 256) = (j 2).val; omega
    have key := View.write_emb_of_mem (v := (Memref.whole cc0_scratch0 : Memref sig .tc .vmem S2x512x8192 .bf16).access
      (Rect.unit (s := S2x512x8192) ![s, 0, 256 * b] S1x512x256.size inb)) (Val := Elt F) f w (Finset.mem_univ (tix (j 1) (j 2).val))
    rw [hj'] at key
    refine key.trans ?_
    show w _ = LBv m c k (j 1) (j 2).val
    unfold LBv
    rw [hw, show (j 2).val / 256 = b from by omega]

theorem logP_fill (T : ℕ) (k : Fin 4) (h : 256 * k.val + 2 ≤ T) (h' : T ≤ tSend k) :
    logP m c T (slotOf k) = lsv m c fullShare k (k.val % 2) (cnt k T) := by
  have hk := k.isLt
  unfold tSend at h'
  unfold logP slotOf
  dsimp only
  by_cases h2 : k.val < 2
  · rw [if_pos (by unfold tSend; omega), show k.val % 2 = k.val from by omega]
  · rw [if_neg (by unfold tSend; omega), if_neg (by unfold tSw; rw [if_pos (by omega)]; omega), if_pos (by unfold tSend; omega),
      show k.val % 2 + 2 = k.val from by omega]

set_option maxHeartbeats 1600000 in
/-- The product of a point's blocks, stored to the chunk's slot. -/
theorem stage2 (h0 : (i 0).val = n / 32) (h1 : (i 1).val = n % 32) (hn : n < 160)
    (arg2 : Memref sig .tc .vmem S512x4096 .bf16) (arg3 : Memref sig .tc .vmem S4096x256 .bf16)
    (X : S512x4096.Idx → Elt F .bf16) (Y : S4096x256.Idx → Elt F .bf16) (hXY : k0_pay36 X Y = payT m c (pt n)) (Kt : PUnit → sProp 𝕄) :
    iprop((owns (c : Thread nD τ) arg2 fullShare X ∗ owns (c : Thread nD τ) arg3 fullShare Y)
        ∗ stagePre m K Ks c (8 * n + 2) iprop((owns (c : Thread nD τ) arg2 fullShare X ∗ owns (c : Thread nD τ) arg3 fullShare Y) -∗ Kt ⟨⟩))
      ⊢ wp frame (wpE (defs₀ (F := F)) 𝒱₀ (c : Thread nD τ) none) Set.univ
      (if k0_h3 : k0_cond3 i = 1#1 then (do
        let v41 : Vec F S512x4096 .bf16 ← Prog.lift (.load arg2 (Rect.unit (s := S512x4096) ![0, 0] S512x4096.size inb_S512x4096_S512x4096_0_0).toLoadRect (View.loadsAt_vmem h_S512x4096))
        let v43 : Vec F S4096x256 .bf16 ← Prog.lift (.load arg3 (Rect.unit (s := S4096x256) ![0, 0] S4096x256.size inb_S4096x256_S4096x256_0_0).toLoadRect (View.loadsAt_vmem h_S4096x256))
        let v60 : Vec F S1x512x256 .bf16 ← Prog.lift (.load (Memref.whole cc0_scratch0) (Rect.unit (s := S2x512x8192) (k0_off3 i) S1x512x256.size (k0_off3_inb i k0_h3)).toLoadRect (View.loadsAt_vmem h_S1x512x256))
        Prog.lift (.store (Memref.whole cc0_scratch0) (Rect.unit (s := S2x512x8192) (k0_off3 i) S1x512x256.size (k0_off3_inb i k0_h3)) (k0_pay36 v41 v43) Finset.univ (View.stores_vmem h_S1x512x256 ((Memref.isWhole_whole cc0_scratch0).storeExact_slice rfl _ (k0_off3_packedbf16 i k0_h3)) (fun _ => rfl)) (.inl rfl))
        pure ⟨⟩) else (do pure ⟨⟩)) Kt := by
  unfold stagePre
  by_cases hc : k0_cond3 i = 1#1
  · rw [dif_pos hc]
    have ha := (cond3_iff i).mp hc
    obtain ⟨k, hk⟩ : ∃ k : Fin 4, k.val = n / 32 := ⟨⟨n / 32, by omega⟩, rfl⟩
    have hk4 := k.isLt
    simp only [Prog.lift, Prog.bind_op, Prog.bind_ret, Prog.pure_eq_ret]
    have hoff : k0_off3 i = ![k.val % 2, 0, 256 * (n % 32)] := by rw [off3_eq, h0, h1, hk]
    unfold St
    rw [← barP_succ c (8 * n + 2) (by omega), ← sends_succ c (8 * n + 2) (by omega), ← recvs_succ c (8 * n + 2) (by omega),
      ← lands_succ m c (8 * n + 2) (by omega) (by omega) (by omega), ← gives_succ c (8 * n + 2) (by omega),
      ← takeP_succ c (8 * n + 2) (by omega) (by omega), ← outP_succ m c (8 * n + 2) (by omega), ← oweP_succ c (8 * n + 2) (by omega) (by omega) (by omega)]
    have e1 := logP_fill m c (8 * n + 2) k (by omega) (by unfold tSend; omega)
    have e2 := logP_fill m c (8 * n + 2 + 1) k (by omega) (by unfold tSend; omega)
    rw [show cnt k (8 * n + 2) = n % 32 from by unfold cnt; omega] at e1
    rw [show cnt k (8 * n + 2 + 1) = n % 32 + 1 from by unfold cnt; omega] at e2
    iintro ⟨⟨HX, HY⟩, #HF, ⟨⟨Hbar, Hse, Hre, Hlo, Hla, Hgi, Hta, Hou⟩, HO⟩, Hk⟩
    ihave Hlo := (bigSep_univ_update (Φ := logP m c (8 * n + 2)) (Ψ := logP m c (8 * n + 2 + 1)) (slotOf k) (fun j hj => by
      have hv : j.val ≠ k.val % 2 := fun e => hj (Fin.ext e)
      have := j.isLt
      exact (logP_succ m c (8 * n + 2) j (by omega) (by omega) (by omega) (by omega) (by omega)).symm)) $$ Hlo
    icases Hlo with ⟨Hl, Hlo⟩
    ihave Hl := (Entails.of_eq e1) $$ Hl
    iapply (load_owns c arg2 _ _ X) $$ HX
    iintro HX
    iapply (load_owns c arg3 _ _ Y) $$ HY
    iintro HY
    unfold lsv
    icases Hl with ⟨%f, %hf, Hl⟩
    have hsub := block_sub (k.val % 2) (n % 32) (k0_off3 i) (k0_off3_inb i hc) hoff
    iapply (wp_load 𝒱₀ (c : Thread nD τ) none Set.univ (m := (Memref.whole cc0_scratch0 : Memref sig .tc .vmem S2x512x8192 .bf16)) (S := slotSet (k.val % 2))
      (r := (Rect.unit (s := S2x512x8192) (k0_off3 i) S1x512x256.size (k0_off3_inb i hc)).toLoadRect)
      (by rw [← View.set_slice_whole cc0_scratch0] at hsub; exact (View.set_slice _ _).symm.subset.trans hsub)) $$ Hl
    iintro Hl
    iapply (wp_store 𝒱₀ (c : Thread nD τ) none Set.univ (m := (Memref.whole cc0_scratch0 : Memref sig .tc .vmem S2x512x8192 .bf16)) (S := slotSet (k.val % 2))
      (r := Rect.unit (s := S2x512x8192) (k0_off3 i) S1x512x256.size (k0_off3_inb i hc)) (Mk := Finset.univ)
      (by rw [View.setOn_univ]; exact (View.set_slice_whole _ _).subset.trans hsub)) $$ Hl
    iintro Hl
    rw [wp_ret]; imodintro
    iapply Hk $$ [Hbar Hse Hre Hlo Hla Hgi Hta Hou HO Hl] [HX HY]
    · isplitr [HO]
      · isplitl [Hbar]; · iexact Hbar
        isplitl [Hse]; · iexact Hse
        isplitl [Hre]; · iexact Hre
        isplitl [Hlo Hl]
        · iapply Hlo
          iapply (Entails.of_eq e2.symm)
          unfold lsv
          iexists _
          isplitr
          · ipureintro
            exact filled_store m c k.val (k.val % 2) (n % 32) (k0_off3 i) (k0_off3_inb i hc) hoff f hf (k0_pay36 X Y)
              (by rw [hXY, show 32 * k.val + n % 32 = n from by omega])
          iexact Hl
        isplitl [Hla]; · iexact Hla
        isplitl [Hgi]; · iexact Hgi
        isplitl [Hta]; · iexact Hta
        iexact Hou
      · iexact HO
    · isplitl [HX]; · iexact HX
      iexact HY
  · rw [dif_neg hc]
    have hne : ¬ (n / 32 < 4) := fun h => hc ((cond3_iff i).mpr (by omega))
    rw [← St_succ m c (8 * n + 2) (by omega) (by omega) (by omega) (by omega) (by omega) (by omega) (by omega) (by omega)]
    rw [Prog.pure_eq_ret, wp_ret]
    iintro ⟨HXY, -, HS, Hk⟩
    imodintro
    iapply Hk $$ HS HXY

end Stage

end Cert.Exchange

end
-- ==== Proof.Stages3.lean ====
/-
# `Stages3`: the credit's wait and the transfer
-/
module

public import proofs.«01_k».proof.Proof.Stages2

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Stage
variable (K : Dev nD × Fin 10 → ℕ) (Ks : Slot → ℕ) (c : Dev nD) (i : grid0.Coords) (n : ℕ)

/-! ## The credit -/

/-- Taking the first credit: one of the two duties was paid. -/
theorem wait_cred0 {α : Type} {Q : α → sProp 𝕄} {kk : PUnit → Prog (TpuEff nD τ sig (Elt F) Λ₀ .tc) α} :
    iprop(Facts m K Ks ∗ takeP c 763 ∗ oweP c 763)
      ⊢ iprop(((takeP c (763 + 1) ∗ oweP c 763) -∗ wp frame (wpE (defs₀ (F := F)) 𝒱₀ (c : Thread nD τ) none) Set.univ (kk ⟨⟩) Q)
        -∗ wp frame (wpE (defs₀ (F := F)) 𝒱₀ (c : Thread nD τ) none) Set.univ (.op (.semWait credS ((1#32 : BitVec 32)).toNat) kk) Q) := by
  unfold takeP oweP
  rw [if_pos (by unfold tCw; omega), if_neg (by unfold tCw; omega), if_pos (by unfold tCw; omega)]
  iintro ⟨#HF, ⟨Hat, Hc0, Hc1⟩, ⟨%W, HO⟩⟩ Hk
  ihave #⟨Hi, -⟩ := (facts_cred m K Ks c) $$ HF
  iapply (Rounds.wp_wait 𝒱₀ ER (Rd m) (c : Thread nD τ) none (κ := K (c, 9))
    (wpE_semWait_eq 𝒱₀ (c : Thread nD τ) none Set.univ) (Set.mem_univ _) (cr := Finsupp.single 0 1) (O := owedT c 763) (W := W) {(.reg credS, 0)}
    (R := 0) (m := 0) (T := ∅) (Util.total_single 0 1) (image_single_subset (.reg credS) 0 1)) $$ [Hc0 HO Hat]
  · isplitr; · iexact Hi
    isplitl [Hc0]; · iexact Hc0
    isplitl [HO]; · iexact HO
    isplitr; · iapply (mayWait_cred c 0 763 (by unfold tCw; exact le_rfl)); iapply (facts_lev m K Ks); iexact HF
    iexact Hat
  iintro %S ⟨%hS, HO, Hat, Hpay⟩
  have hne : S.Nonempty := by
    rw [Finset.nonempty_iff_ne_empty]
    rintro rfl
    have h2 := hS.2.2
    rw [duties_cred, expect_cred, Finset.sdiff_empty, Finset.card_univ, Fintype.card_bool] at h2
    have h3 : (1#32 : BitVec 32).toNat = 1 := rfl
    omega
  have hp : bigSep (S \ ∅) (fun d => (Rd (F := F) m).payload (credC c) 0 d) = bigSep S (credPay (F := F) c) := by
    rw [Finset.sdiff_empty]; exact bigSep_congr fun d _ => payload_cred m c d
  ihave Hpay := (Entails.of_eq hp) $$ Hpay
  iapply Hk
  isplitr [HO]
  · isplitr [Hc1]
    · iexists S
      isplitr; · ipureintro; exact hne
      isplitl [Hat]; · iexact Hat
      iexact Hpay
    · iexact Hc1
  · iexists _; iexact HO

/-- What both duties bring. -/
theorem cred_all (S : Finset Bool) : iprop(bigSep S (credPay (F := F) c) ∗ bigSep (Finset.univ \ S) (credPay c)) ⊢ credPay c true := by
  by_cases h : true ∈ S
  · exact sep_elim_left.trans (bigSep_elim h)
  · exact sep_elim_right.trans (bigSep_elim (Finset.mem_sdiff.mpr ⟨Finset.mem_univ _, h⟩))

/-- Taking the second credit: the other duty was paid too. -/
theorem wait_cred1 {α : Type} {Q : α → sProp 𝕄} {kk : PUnit → Prog (TpuEff nD τ sig (Elt F) Λ₀ .tc) α} :
    iprop(Facts m K Ks ∗ takeP c 1019 ∗ oweP c 1019)
      ⊢ iprop(((takeP c (1019 + 1) ∗ oweP c 1019) -∗ wp frame (wpE (defs₀ (F := F)) 𝒱₀ (c : Thread nD τ) none) Set.univ (kk ⟨⟩) Q)
        -∗ wp frame (wpE (defs₀ (F := F)) 𝒱₀ (c : Thread nD τ) none) Set.univ (.op (.semWait credS ((1#32 : BitVec 32)).toNat) kk) Q) := by
  unfold takeP oweP
  rw [if_neg (by unfold tCw; omega), if_pos (by unfold tCw; omega), if_neg (by unfold tCw; omega), if_neg (by unfold tCw; omega)]
  iintro ⟨#HF, ⟨⟨%S, %hS, Hat, Hp⟩, Hc1⟩, ⟨%W, HO⟩⟩ Hk
  ihave #⟨Hi, -⟩ := (facts_cred m K Ks c) $$ HF
  iapply (Rounds.wp_wait_rest_token 𝒱₀ ER (Rd m) (c : Thread nD τ) none (κ := K (c, 9))
    (wpE_semWait_eq 𝒱₀ (c : Thread nD τ) none Set.univ) (Set.mem_univ _) 1 (O := owedT c 1019) (W := W)
    (R := 0) (m := 1) (T := S) (by rw [expect_cred]; decide)) $$ [Hc1 HO Hat]
  · isplitr; · iexact Hi
    isplitl [Hc1]; · iexact Hc1
    isplitl [HO]; · iexact HO
    isplitr; · iapply (mayWait_cred c 1 1019 (by unfold tCw; exact le_rfl)); iapply (facts_lev m K Ks); iexact HF
    iexact Hat
  iintro ⟨HO, Hat, -, Hpay⟩
  have hp : bigSep ((Rd (F := F) m).duties (credC c) 0 \ S) (fun d => (Rd (F := F) m).payload (credC c) 0 d) = bigSep (Finset.univ \ S) (credPay (F := F) c) := by
    rw [duties_cred]; exact bigSep_congr fun d _ => payload_cred m c d
  ihave Hpay := (Entails.of_eq hp) $$ Hpay
  ihave Hb := (cred_all c S) $$ [Hp Hpay]
  · isplitl [Hp]; · iexact Hp
    iexact Hpay
  unfold credPay
  rw [if_pos rfl]
  iapply Hk
  isplitr [HO]
  · isplitl [Hat]; · iexact Hat
    iexact Hb
  · iexists _; iexact HO

set_option maxHeartbeats 800000 in
/-- The wait for a credit, at the last column block of chunks 2 and 3. -/
theorem stage3 (hc : k0_cond4 i = 1#1) (h0 : (i 0).val = n / 32) (h1 : (i 1).val = n % 32) (hn : n < 160)
    (v : BitVec 1) (hv : v = 1#1 ↔ 2 ≤ (i 0).val) (Kt : PUnit → sProp 𝕄) :
    stagePre m K Ks c (8 * n + 3) (Kt ⟨⟩) ⊢ wp frame (wpE (defs₀ (F := F)) 𝒱₀ (c : Thread nD τ) none) Set.univ
      (if k0_h5 : v = 1#1 then (do
        semWaitWord credS 1#32
        pure ⟨⟩) else (do pure ⟨⟩)) Kt := by
  obtain ⟨ha, hb⟩ := (cond4_iff i).mp hc
  unfold stagePre
  by_cases hc' : v = 1#1
  · rw [dif_pos hc']
    have h2 := hv.mp hc'
    simp only [semWaitWord, Prog.lift, Prog.bind_op, Prog.bind_ret, Prog.pure_eq_ret]
    obtain ⟨T, hT⟩ : ∃ T, T = 8 * n + 3 := ⟨_, rfl⟩
    rw [← hT]
    unfold St
    rw [← barP_succ c T (by omega), ← sends_succ c T (by omega), ← recvs_succ c T (by omega), ← logs_succ m c T (by omega) (by omega),
      ← lands_succ m c T (by omega) (by omega) (by omega), ← gives_succ c T (by omega), ← outP_succ m c T (by omega),
      ← oweP_succ c T (by omega) (by omega) (by omega)]
    obtain rfl | rfl : T = 763 ∨ T = 1019 := by omega
    · iintro ⟨#HF, ⟨⟨Hbar, Hse, Hre, Hlo, Hla, Hgi, Hta, Hou⟩, HO⟩, Hk⟩
      iapply (wait_cred0 m K Ks c) $$ [Hta HO]
      · isplitr; · iexact HF
        isplitl [Hta]; · iexact Hta
        iexact HO
      iintro ⟨Hta, HO⟩
      rw [wp_ret]; imodintro
      iapply Hk
      isplitr [HO]
      · isplitl [Hbar]; · iexact Hbar
        isplitl [Hse]; · iexact Hse
        isplitl [Hre]; · iexact Hre
        isplitl [Hlo]; · iexact Hlo
        isplitl [Hla]; · iexact Hla
        isplitl [Hgi]; · iexact Hgi
        isplitl [Hta]; · iexact Hta
        iexact Hou
      · iexact HO
    · iintro ⟨#HF, ⟨⟨Hbar, Hse, Hre, Hlo, Hla, Hgi, Hta, Hou⟩, HO⟩, Hk⟩
      iapply (wait_cred1 m K Ks c) $$ [Hta HO]
      · isplitr; · iexact HF
        isplitl [Hta]; · iexact Hta
        iexact HO
      iintro ⟨Hta, HO⟩
      rw [wp_ret]; imodintro
      iapply Hk
      isplitr [HO]
      · isplitl [Hbar]; · iexact Hbar
        isplitl [Hse]; · iexact Hse
        isplitl [Hre]; · iexact Hre
        isplitl [Hlo]; · iexact Hlo
        isplitl [Hla]; · iexact Hla
        isplitl [Hgi]; · iexact Hgi
        isplitl [Hta]; · iexact Hta
        iexact Hou
      · iexact HO
  · rw [dif_neg hc']
    have hne : ¬ 2 ≤ (i 0).val := fun h => hc' (hv.mpr h)
    rw [← St_succ m c (8 * n + 3) (by omega) (by omega) (by omega) (by omega) (by omega) (by omega) (by omega) (by omega)]
    rw [Prog.pure_eq_ret, wp_ret]
    iintro ⟨-, HS, Hk⟩
    imodintro
    iapply Hk; iexact HS

/-! ## The transfer -/

/-- The partner's landing slot was released often enough when a chunk is sent. -/
theorem rel_get (k : Fin 4) :
    iprop(barP (F := F) c (tSend k) ∗ takeP c (tSend k)) ⊢ released ES (peer c, slotOf k) (k.val / 2 + 1) := by
  have hk := k.isLt
  unfold barP takeP
  rw [if_neg (by unfold tSend; omega)]
  obtain h | h | h | h : k = 0 ∨ k = 1 ∨ k = 2 ∨ k = 3 := by revert k; decide
  · subst h
    unfold barPay
    iintro ⟨⟨-, H0, -⟩, -⟩
    iexact H0
  · subst h
    unfold barPay
    iintro ⟨⟨-, -, H0⟩, -⟩
    iexact H0
  · subst h
    rw [if_neg (by unfold tSend tCw; show ¬ 8 * (32 * 2 + 31) + 4 ≤ _; omega), if_pos (by unfold tSend tCw; show 8 * (32 * 2 + 31) + 4 ≤ _; omega)]
    iintro ⟨-, ⟨%S, %hS, -, Hp⟩, -⟩
    obtain ⟨d, hd⟩ := hS
    have hb : bigSep S (credPay (F := F) c) ⊢ (credPay c d : sProp 𝕄) := bigSep_elim hd
    ihave Hb := hb $$ Hp
    unfold credPay
    icases Hb with ⟨Hb, -⟩
    iexact Hb
  · subst h
    rw [if_neg (by unfold tSend tCw; show ¬ 8 * (32 * 3 + 31) + 4 ≤ _; omega), if_neg (by unfold tSend tCw; show ¬ 8 * (32 * 3 + 31) + 4 ≤ _; omega)]
    iintro ⟨-, -, -, Hb⟩
    iexact Hb

/-- A chunk landed is the chunk sent. -/
theorem filled_send (c : Dev nD) (k s : ℕ) (off : Fin 3 → ℕ) (h) (e : off = ![s, 0, 0])
    (f g : S2x512x8192.Idx → Elt F .bf16) (hf : Filled m c k s 32 f) :
    Filled m c k s 32 ((slotR off h).view.write (Elt F) g ((slotL off h).view.read (Elt F) f) Finset.univ) := by
  intro j hj hq
  have hm : j ∈ (slotR off h).view.set := by rw [slotR_set s off h e]; exact mem_slotSet.mpr hj
  obtain ⟨x, -, rfl⟩ := Finset.mem_map.mp hm
  refine (View.write_emb_of_mem (v := (slotR off h).view) (Val := Elt F) g _ (Finset.mem_univ x)).trans ?_
  exact hf _ hj hq

set_option maxHeartbeats 800000 in
/-- One chunk's transfer: half of the slot goes with it, the partner's slot comes back filled. -/
theorem send_rule (k : Fin 4) (p : Dev nD) (hp : p = peer c) (off : Fin 3 → ℕ) (h) (e : off = ![k.val % 2, 0, 0])
    {hsc : (slotR off h : Memref sig (Dev.tc p : Thread nD τ).2.kind .vmem S512x8192 .bf16).view.ref.isScScratch = false}
    {hsrc : (slotL off h).view.WordExact} {hdst : (slotR off h).view.WordExact}
    {hsem : DmaTarget.Typed .vmem (.dma (recvS k)) (.remote (Dev.tc p : Thread nD τ) (slotR off h : Memref sig .tc .vmem S512x8192 .bf16) (.dma (sendS k)) hsc)}
    {α : Type} {Q : α → sProp 𝕄} {kk : PUnit → Prog (TpuEff nD τ sig (Elt F) Λ₀ .tc) α} :
    iprop(Facts m K Ks ∗ lsv m c fullShare.left k.val (k.val % 2) 32 ∗ rsAny (peer c) (k.val % 2) ∗ oweP c (tSend k)
        ∗ dutyTok ER (sendC c k) 0 false ∗ dutyTok ER (recvC (peer c) k) 0 false)
      ⊢ iprop(((cred (tallyAt (sendC c k) 2 N) ∗ oweP c (tSend k + 1)) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (slotL off h) (.remote (Dev.tc p : Thread nD τ) (slotR off h) (.dma (sendS k)) hsc) (.dma (recvS k)) hsrc hdst hsem) kk) Q) := by
  subst hp
  unfold lsv rsAny oweP
  rw [← slotL_set (k.val % 2) off h e]
  have eR := slotR_set (k.val % 2) off h e
  rw [← slotL_set (k.val % 2) off h e] at eR
  rw [show (slotL off h).view.set = (slotR off h).view.set from eR.symm]
  iintro ⟨#HF, ⟨%f, %hf, Hs⟩, ⟨%g, Hd⟩, ⟨%W, HO⟩, Ht, Ht'⟩ Hk
  ihave #⟨Hi, Hr⟩ := (facts_send m K Ks c k) $$ HF
  ihave #⟨Hi', Hr'⟩ := (facts_recv m K Ks (peer c) k) $$ HF
  iapply (Rounds.wp_send_pointsTo 𝒱₀ ER (Rd m) (c : Thread nD τ) none (c' := (peer c : Thread nD τ)) (src := slotL off h) (dst := slotR off h) (sS := .dma (sendS k)) (sem := .dma (recvS k))
    (κ₁ := K (c, jSend k)) (κ₂ := K (peer c, jRecv k)) (r₁ := 0) (r₂ := 0) (d₁ := false) (d₂ := false) (fs := f) (fd := g)
    (q := fullShare.left)
    (by rw [duties_send]; exact Finset.mem_singleton_self _) (by rw [duties_recv]; exact Finset.mem_singleton_self _)
    0 2 N (creditR off h) (amount_dma m c (sendS k) 0 false) (amount_dma m (peer c) (recvS k) 0 false) (owedT c (tSend k + 1)) (owedT_send c k) (W := W)
    (by
      rw [payload_send]; unfold lsv
      rw [← slotL_set (k.val % 2) off h e]
      iintro H
      iexists f
      isplitr; · ipureintro; exact hf
      iexact H)
    (by
      rw [payload_recv]; unfold rsv
      rw [← slotR_set (k.val % 2) off h e, peer_peer]
      iintro H
      iexists _
      isplitr; · ipureintro; exact filled_send m c k.val (k.val % 2) off h e f g hf
      iexact H)) $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

theorem lsv_split (k s b : ℕ) : lsv m c fullShare k s b ⊢ iprop(lsv m c fullShare.left k s b ∗ lsv m c fullShare.right k s b) := by
  unfold lsv
  iintro ⟨%f, %hf, H⟩
  ihave H := (pointsTo_share (PosShare.mem_left_op_right fullShare)).1 $$ H
  icases H with ⟨H1, H2⟩
  isplitl [H1]
  · iexists f
    isplitr; · ipureintro; exact hf
    iexact H1
  · iexists f
    isplitr; · ipureintro; exact hf
    iexact H2

theorem sendP_start (k : Fin 4) : sendP (F := F) c (tSend k) k = iprop(dutyTok ER (sendC c k) 0 false ∗ dutyTok ER (recvC (peer c) k) 0 false
      ∗ writeTok ES (peer c, slotOf k) (k.val / 2 + 1) ∗ atPos ER (sendC c k) 0 ∅ 0) := by
  unfold sendP; rw [if_pos le_rfl]

theorem logP_lent (T : ℕ) (k : Fin 4) (h : T = tSend k) :
    logP m c (T + 1) (slotOf k) = lsv m c fullShare.right k (k.val % 2) 32 := by
  have hk := k.isLt
  subst h
  unfold logP slotOf
  dsimp only
  by_cases h2 : k.val < 2
  · rw [if_neg (by unfold tSend; omega), if_pos (by unfold tSend tSw; rw [if_pos (by omega)]; omega), show k.val % 2 = k.val from by omega]
  · rw [if_neg (by unfold tSend; omega), if_neg (by unfold tSend tSw; rw [if_pos (by omega)]; omega), if_neg (by unfold tSend; omega),
      if_pos (by unfold tSend tSw; rw [if_neg (by omega)]; omega), show k.val % 2 + 2 = k.val from by omega]

set_option maxHeartbeats 1600000 in
/-- The chunk's transfer to the partner, at its last column block. -/
theorem stage4 (hc : k0_cond4 i = 1#1) (h0 : (i 0).val = n / 32) (h1 : (i 1).val = n % 32) (hn : n < 160)
    (p : Dev nD) (hp : p = peer c) (offS : Fin 1 → ℕ) (hS hS') (eS : offS = ![(i 0).val]) (off : Fin 3 → ℕ) (h) (e : off = ![(i 0).val % 2, 0, 0])
    {hsc : (slotR off h : Memref sig (Dev.tc p : Thread nD τ).2.kind .vmem S512x8192 .bf16).view.ref.isScScratch = false}
    {hsrc : (slotL off h).view.WordExact} {hdst : (slotR off h).view.WordExact} {hsem}
    (Kt : PUnit → sProp 𝕄) :
    stagePre m K Ks c (8 * n + 4) (Kt ⟨⟩) ⊢ wp frame (wpE (defs₀ (F := F)) 𝒱₀ (c : Thread nD τ) none) Set.univ
      (.op (.enqueueDma (slotL off h) (.remote (Dev.tc p : Thread nD τ) (slotR off h)
        (.dma (((cc0_scratch4 : DmaSems sig S4).slice (Rect.unit (s := S4) offS S1.size hS)).squeeze S_ squeezes_S1_S_).sem) hsc)
        (.dma (((cc0_scratch5 : DmaSems sig S4).slice (Rect.unit (s := S4) offS S1.size hS')).squeeze S_ squeezes_S1_S_).sem) hsrc hdst hsem)
        (fun _ => .ret ⟨⟩)) Kt := by
  obtain ⟨ha, hb⟩ := (cond4_iff i).mp hc
  obtain ⟨k, hk⟩ : ∃ k : Fin 4, k.val = n / 32 := ⟨⟨n / 32, by omega⟩, rfl⟩
  have hk4 := k.isLt
  have hTT : 8 * n + 4 = tSend k := by unfold tSend; omega
  have e1 := logP_fill m c (8 * n + 4) k (by omega) (by unfold tSend; omega)
  have e2 := logP_lent m c (8 * n + 4) k hTT
  rw [show cnt k (8 * n + 4) = 32 from by unfold cnt; omega] at e1
  unfold stagePre St
  rw [← barP_succ c (8 * n + 4) (by omega), ← recvs_succ c (8 * n + 4) (by omega),
    ← lands_succ m c (8 * n + 4) (by omega) (by omega) (by omega), ← gives_succ c (8 * n + 4) (by omega),
    ← takeP_succ c (8 * n + 4) (by omega) (by omega), ← outP_succ m c (8 * n + 4) (by omega)]
  have hsS := sendS_eq offS hS k (by rw [eS, h0, hk])
  have hsR := recvS_eq offS hS' k (by rw [eS, h0, hk])
  revert hsem
  rw [hsS, hsR]
  intro hsem
  iintro ⟨#HF, ⟨⟨Hbar, Hse, Hre, Hlo, Hla, Hgi, Hta, Hou⟩, HO⟩, Hk⟩
  ihave Hse := (bigSep_univ_update (Φ := sendP c (8 * n + 4)) (Ψ := sendP c (8 * n + 4 + 1)) k (fun j hj => by
    have hv : j.val ≠ k.val := fun e => hj (Fin.ext e)
    exact (sendP_succ c (8 * n + 4) j (by omega) (by omega) (by omega)).symm)) $$ Hse
  icases Hse with ⟨Hs, Hse⟩
  ihave Hlo := (bigSep_univ_update (Φ := logP m c (8 * n + 4)) (Ψ := logP m c (8 * n + 4 + 1)) (slotOf k) (fun j hj => by
    have hv : j.val ≠ k.val % 2 := fun e => hj (Fin.ext e)
    have := j.isLt
    exact (logP_succ m c (8 * n + 4) j (by omega) (by omega) (by omega) (by omega) (by omega)).symm)) $$ Hlo
  icases Hlo with ⟨Hl, Hlo⟩
  ihave Hl := (Entails.of_eq e1) $$ Hl
  ihave Hl := (lsv_split m c k.val (k.val % 2) 32) $$ Hl
  icases Hl with ⟨Hll, Hlr⟩
  ihave Hs := (Entails.of_eq ((congrArg (fun T => sendP (F := F) c T k) hTT).trans (sendP_start c k))) $$ Hs
  icases Hs with ⟨Ht, Ht', Hw, Hat⟩
  have hrel : iprop(barP (F := F) c (8 * n + 4) ∗ takeP c (8 * n + 4)) ⊢ released ES (peer c, slotOf k) (k.val / 2 + 1) := by
    rw [hTT]; exact rel_get c k
  ihave #Hrel := hrel $$ [Hbar Hta]
  · isplitl [Hbar]; · iexact Hbar
    iexact Hta
  ihave #Hsl := (facts_slot m K Ks (peer c, slotOf k)) $$ HF
  unfold slotF
  imod (slot_take ES (Set.mem_univ (Ks (peer c, slotOf k))) (k.val / 2 + 1)) $$ [Hw] with Hd
  · isplitr; · iexact Hsl
    isplitr; · iexact Hrel
    iexact Hw
  ihave HO := (Entails.of_eq (congrArg (fun T => oweP (F := F) c T) hTT)) $$ HO
  iapply (send_rule m K Ks c k p hp off h (by rw [e, h0, hk])) $$ [Hll Hd HO Ht Ht']
  · isplitr; · iexact HF
    isplitl [Hll]; · iexact Hll
    isplitl [Hd]; · iexact Hd
    isplitl [HO]; · iexact HO
    isplitl [Ht]; · iexact Ht
    iexact Ht'
  iintro ⟨Hcr, HO⟩
  rw [wp_ret]; imodintro
  iapply Hk
  isplitr [HO]
  · isplitl [Hbar]; · iexact Hbar
    isplitl [Hse Hat Hcr]
    · iapply Hse
      iapply (Entails.of_eq (sendP_mid c (8 * n + 4 + 1) k (by omega) (by unfold tSw; split <;> omega)).symm)
      isplitl [Hat]; · iexact Hat
      iexact Hcr
    isplitl [Hre]; · iexact Hre
    isplitl [Hlo Hlr]
    · iapply Hlo
      iapply (Entails.of_eq e2.symm)
      iexact Hlr
    isplitl [Hla]; · iexact Hla
    isplitl [Hgi]; · iexact Hgi
    isplitl [Hta]; · iexact Hta
    iexact Hou
  · iapply (Entails.of_eq (congrArg (fun T => oweP (F := F) c (T + 1)) hTT.symm))
    iexact HO

end Stage

end Cert.Exchange

end
-- ==== Proof.SoftRules.lean ====
/-
# `SoftRules`: the loads, stores and local copies of the softmax
-/
module

public import proofs.«01_k».proof.Proof.Stages3
public import Idealize.ShloMosaic.Lib.Transfers

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Soft
variable (K : Dev nD × Fin 10 → ℕ) (Ks : Slot → ℕ) (c : Dev nD)

/-! ## Whole buffers -/

theorem unit_full {s : Shape} (off : Fin s.rank → ℕ) (inb : ∀ a, off a + s.size a ≤ s.size a) (x : s.Idx) :
    (Rect.unit (s := s) off s.size inb).emb x = x :=
  funext fun b => Fin.ext (by
    have hb := inb b
    show off b + 1 * (x b).val = (x b).val
    omega)

/-- A whole memref stored at once. -/
theorem store_owns {s : Shape} {e : EltTy} (a : Memref sig .tc .vmem s e) (off : Fin s.rank → ℕ) (inb) (X w : s.Idx → Elt F e) {hx hm}
    {α : Type} {Q : α → sProp 𝕄} {kk : PUnit → Prog (TpuEff nD τ sig (Elt F) Λ₀ .tc) α} :
    (owns (c : Thread nD τ) a fullShare X : sProp 𝕄)
      ⊢ iprop((owns (c : Thread nD τ) a fullShare w -∗ wp frame (wpE (defs₀ (F := F)) 𝒱₀ (c : Thread nD τ) none) Set.univ (kk ⟨⟩) Q)
        -∗ wp frame (wpE (defs₀ (F := F)) 𝒱₀ (c : Thread nD τ) none) Set.univ
          (.op (.store a (Rect.unit (s := s) off s.size inb) w Finset.univ hx hm) kk) Q) := by
  unfold owns
  iintro ⟨%f, %hf, H⟩ Hk
  iapply (wp_store 𝒱₀ (c : Thread nD τ) none Set.univ (m := a) (r := Rect.unit (s := s) off s.size inb) (Mk := Finset.univ) (S := a.view.set)
    (by rw [View.setOn_univ]; exact View.set_slice_subset _ _)) $$ H
  iintro H
  iapply Hk
  iexists _
  isplitr
  · ipureintro
    have h1 := View.read_write_univ (v := a.view.slice (Rect.unit (s := s) off s.size inb)) (Val := Elt F) f w
    funext x
    have h2 := congrFun h1 x
    refine Eq.trans ?_ h2
    show a.view.read (Elt F) _ x = a.view.read (Elt F) _ ((Rect.unit (s := s) off s.size inb).emb x)
    rw [unit_full]
  iexact H

/-! ## Sub-blocks of the logits -/

theorem sub_set (s r : ℕ) (off : Fin 3 → ℕ) (inb) (e : off = ![s, r, 0]) :
    (Rect.unit (s := S2x512x8192) off S1x128x8192.size inb).set ⊆ slotSet s := by
  subst e
  intro j hj
  rw [Rect.mem_set_unit] at hj
  have h : s ≤ (j 0).val ∧ (j 0).val < s + 1 := hj 0
  exact mem_slotSet.mpr (by omega)

/-- A load of 128 rows reads the chunk's rows. -/
theorem sub_val (c : Dev nD) (k s : ℕ) (q : Fin 4) (off : Fin 3 → ℕ) (inb) (e : off = ![s, 128 * q.val, 0])
    (f : S2x512x8192.Idx → Elt F .bf16) (hf : Filled m c k s 32 f) (x : S1x128x8192.Idx) :
    f ((Rect.unit (s := S2x512x8192) off S1x128x8192.size inb).emb x) = locv m c k q x := by
  subst e
  have h0 : (x 0).val < 1 := (x 0).isLt
  have h1 : (x 1).val < 128 := (x 1).isLt
  have h2 : (x 2).val < 8192 := (x 2).isLt
  have hq := q.isLt
  rw [hf _ (by show s + 1 * (x 0).val = s; omega) (by show 0 + 1 * (x 2).val < 256 * 32; omega)]
  unfold LB locv
  have e1 : ((Rect.unit (s := S2x512x8192) ![s, 128 * q.val, 0] S1x128x8192.size inb).emb x 1 : Fin 512)
      = ⟨128 * q.val + (x 1).val, by show _ < 512; omega⟩ := Fin.ext (by show 128 * q.val + 1 * (x 1).val = _; dsimp only; omega)
  have e2 : ((Rect.unit (s := S2x512x8192) ![s, 128 * q.val, 0] S1x128x8192.size inb).emb x 2).val = (x 2).val := by
    show 0 + 1 * (x 2).val = _; omega
  show LBv m c k ((Rect.unit (s := S2x512x8192) ![s, 128 * q.val, 0] S1x128x8192.size inb).emb x 1 : Fin 512) _ = _
  rw [e1, e2]
  rfl

/-- The own rows. -/
theorem load_own (k s : ℕ) (q : Fin 4) (sh : PosShare TreeShare) (off : Fin 3 → ℕ) (inb) (e : off = ![s, 128 * q.val, 0]) {hl}
    {α : Type} {Q : α → sProp 𝕄} {kk : (S1x128x8192.Idx → Elt F .bf16) → Prog (TpuEff nD τ sig (Elt F) Λ₀ .tc) α} :
    lsv m c sh k s 32
      ⊢ iprop((lsv m c sh k s 32 -∗ wp frame (wpE (defs₀ (F := F)) 𝒱₀ (c : Thread nD τ) none) Set.univ (kk (locv m c k q)) Q)
        -∗ wp frame (wpE (defs₀ (F := F)) 𝒱₀ (c : Thread nD τ) none) Set.univ
          (.op (.load (Memref.whole cc0_scratch0 : Memref sig .tc .vmem S2x512x8192 .bf16) (Rect.unit (s := S2x512x8192) off S1x128x8192.size inb).toLoadRect hl) kk) Q) := by
  unfold lsv
  iintro ⟨%f, %hf, H⟩ Hk
  have hsub := sub_set s _ off inb e
  iapply (wp_load 𝒱₀ (c : Thread nD τ) none Set.univ (m := (Memref.whole cc0_scratch0 : Memref sig .tc .vmem S2x512x8192 .bf16)) (S := slotSet s)
    (r := (Rect.unit (s := S2x512x8192) off S1x128x8192.size inb).toLoadRect)
    (by rw [← View.set_slice_whole cc0_scratch0] at hsub; exact (View.set_slice _ _).symm.subset.trans hsub)) $$ H
  iintro H
  have e : (Memref.whole cc0_scratch0 : Memref sig .tc .vmem S2x512x8192 .bf16).view.readAt (Elt F)
      (Rect.unit (s := S2x512x8192) off S1x128x8192.size inb).toLoadRect f = locv m c k q :=
    funext fun x => sub_val m c k s q off inb e f hf x
  rw [e]
  iapply Hk
  iexists f
  isplitr; · ipureintro; exact hf
  iexact H

/-- The partner's rows. -/
theorem load_peer (k s : ℕ) (q : Fin 4) (off : Fin 3 → ℕ) (inb) (e : off = ![s, 128 * q.val, 0]) {hl}
    {α : Type} {Q : α → sProp 𝕄} {kk : (S1x128x8192.Idx → Elt F .bf16) → Prog (TpuEff nD τ sig (Elt F) Λ₀ .tc) α} :
    rsv m c k s
      ⊢ iprop((rsv m c k s -∗ wp frame (wpE (defs₀ (F := F)) 𝒱₀ (c : Thread nD τ) none) Set.univ (kk (locv m (peer c) k q)) Q)
        -∗ wp frame (wpE (defs₀ (F := F)) 𝒱₀ (c : Thread nD τ) none) Set.univ
          (.op (.load (Memref.whole cc0_scratch1 : Memref sig .tc .vmem S2x512x8192 .bf16) (Rect.unit (s := S2x512x8192) off S1x128x8192.size inb).toLoadRect hl) kk) Q) := by
  unfold rsv
  iintro ⟨%f, %hf, H⟩ Hk
  have hsub := sub_set s _ off inb e
  iapply (wp_load 𝒱₀ (c : Thread nD τ) none Set.univ (m := (Memref.whole cc0_scratch1 : Memref sig .tc .vmem S2x512x8192 .bf16)) (S := slotSet s)
    (r := (Rect.unit (s := S2x512x8192) off S1x128x8192.size inb).toLoadRect)
    (by rw [← View.set_slice_whole cc0_scratch1] at hsub; exact (View.set_slice _ _).symm.subset.trans hsub)) $$ H
  iintro H
  have e : (Memref.whole cc0_scratch1 : Memref sig .tc .vmem S2x512x8192 .bf16).view.readAt (Elt F)
      (Rect.unit (s := S2x512x8192) off S1x128x8192.size inb).toLoadRect f = locv m (peer c) k q :=
    funext fun x => sub_val m (peer c) k s q off inb e f hf x
  rw [e]
  iapply Hk
  iexists f
  isplitr; · ipureintro; exact hf
  iexact H

/-! ## The local copies to the result -/

/-- 128 rows of one half of the result. -/
abbrev winM (off : Fin 2 → ℕ) (h : ∀ a, off a + S128x8192.size a ≤ S2048x16384.size a) : Memref sig .tc .hbm S128x8192 .f32 :=
  (Memref.whole main_v1 : Memref sig .tc .hbm S2048x16384 .f32).slice (Rect.unit (s := S2048x16384) off S128x8192.size h) (fun _ => rfl)

def winSet (R b : ℕ) : Finset S2048x16384.Idx := Finset.univ.filter fun j => (R ≤ (j 0).val ∧ (j 0).val < R + 128) ∧ (j 1).val / 8192 = b

theorem mem_winSet {R b : ℕ} {j : S2048x16384.Idx} : j ∈ winSet R b ↔ (R ≤ (j 0).val ∧ (j 0).val < R + 128) ∧ (j 1).val / 8192 = b := by
  unfold winSet; rw [Finset.mem_filter]; exact ⟨fun h => h.2, fun h => ⟨Finset.mem_univ _, h⟩⟩

theorem winM_set (R b : ℕ) (off : Fin 2 → ℕ) (h) (e : off = ![R, 8192 * b]) : (winM off h).view.set = winSet R b := by
  subst e
  refine (View.set_slice_whole _ _).trans ?_
  ext j
  rw [mem_winSet, Rect.mem_set_unit]
  constructor
  · intro hj
    have h0 : R ≤ (j 0).val ∧ (j 0).val < R + 128 := hj 0
    have h1 : 8192 * b ≤ (j 1).val ∧ (j 1).val < 8192 * b + 8192 := hj 1
    omega
  · intro hj a
    fin_cases a
    · show R ≤ (j 0).val ∧ (j 0).val < R + 128; omega
    · show 8192 * b ≤ (j 1).val ∧ (j 1).val < 8192 * b + 8192; omega

def NO : ℕ := (winM ![0, 0] (by decide)).view.dmaCredit
theorem NO_pos : 0 < NO := View.dmaCredit_pos _ (by decide)
theorem creditO (off) (h) : (winM off h).view.dmaCredit = NO := rfl

/-- What a copied window holds. -/
theorem win_val (R b : ℕ) (hR : R % 128 = 0) (off : Fin 2 → ℕ) (h) (e : off = ![R, 8192 * b]) (fd : S2048x16384.Idx → Elt F .f32) (X : S128x8192.Idx → Elt F .f32)
    (j : S2048x16384.Idx) (hj : j ∈ winSet R b) : (winM off h).view.write (Elt F) fd X Finset.univ j = X (oix (j 0).val (j 1).val) := by
  subst e
  have hj' := mem_winSet.mp hj
  have hx : (winM ![R, 8192 * b] h).view.emb (oix (j 0).val (j 1).val) = j := by
    funext a
    apply Fin.ext
    fin_cases a
    · show R + 1 * ((j 0).val % 128) = (j 0).val; omega
    · show 8192 * b + 1 * ((j 1).val % 8192) = (j 1).val; omega
  have key := View.write_emb_of_mem (v := (winM ![R, 8192 * b] h).view) (Val := Elt F) fd X (Finset.mem_univ (oix (j 0).val (j 1).val))
  rw [hx] at key
  exact key

/-- A local copy under way: at its wait the window comes back written and the buffer as it was. -/
def Flt (a : Memref sig .tc .vmem S128x8192 .f32) (k : Fin 2) (R b : ℕ) (X : S128x8192.Idx → Elt F .f32) : sProp 𝕄 :=
  iprop(∃ (fs : a.view.ty.Contents (Elt F)) (g : S2048x16384.Idx → Elt F .f32), ⌜a.view.read (Elt F) fs = X ∧ ∀ j ∈ winSet R b, g j = X (oix (j 0).val (j 1).val)⌝
    ∗ Transfers.Flight EC (c : Thread nD τ) (.dma (outS k)) 2 NO
        iprop((locO c ↦[winSet R b]{fullShare} g) ∗ (a.view.loc (c : Thread nD τ) ↦[a.view.set]{fullShare} fs)))

theorem enq_rule (a : Memref sig .tc .vmem S128x8192 .f32) (k : Fin 2) (R b : ℕ) (hR : R % 128 = 0) (off : Fin 2 → ℕ) (h) (e : off = ![R, 8192 * b])
    (offS : Fin 1 → ℕ) (hS) (eS : offS = ![k.val]) (X : S128x8192.Idx → Elt F .f32) (fd : S2048x16384.Idx → Elt F .f32) {hsrc hdst hsem}
    {α : Type} {Q : α → sProp 𝕄} {kk : PUnit → Prog (TpuEff nD τ sig (Elt F) Λ₀ .tc) α} :
    iprop(owns (c : Thread nD τ) a fullShare X ∗ (locO c ↦[winSet R b]{fullShare} fd) ∗ semVal ((c : Thread nD τ), .dma (outS k)) 0)
      ⊢ iprop((Flt c a k R b X -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma a (.here (winM off h)) (.dma (((cc0_scratch6 : DmaSems sig S2).slice (Rect.unit (s := S2) offS S1.size hS)).squeeze S_ squeezes_S1_S_).sem)
            hsrc hdst hsem) kk) Q) := by
  have hs := outS_eq offS hS k eS
  revert hsem
  rw [hs]
  intro hsem
  unfold owns
  iintro ⟨⟨%fs, %hfs, Ha⟩, Hd, Hv⟩ Hk
  iapply (Transfers.wp_dmaLocal EC 𝒱₀ (c : Thread nD τ) none (src := a) (via := .same) (dst := winM off h) (sm := .dma (outS k)) (fs := fs) (fd := fd) (q := fullShare)
    (Sd := winSet R b) 2 NO (creditO off h) NO_pos (winM_set R b off h e).subset) $$ [Ha Hd Hv]
  · isplitl [Ha]; · iexact Ha
    isplitl [Hd]; · iexact Hd
    iexact Hv
  iintro HF
  iapply Hk
  unfold Flt
  iexists fs
  iexists _
  isplitr [HF]
  rotate_left
  · iexact HF
  · ipureintro
    refine ⟨hfs, fun j hj => ?_⟩
    rw [← hfs]
    exact win_val R b hR off h e fd _ j hj

theorem wait_rule (T : ℕ) (a : Memref sig .tc .vmem S128x8192 .f32) (k : Fin 2) (R b : ℕ) (off : Fin 2 → ℕ) (h)
    (offS : Fin 1 → ℕ) (hS) (eS : offS = ![k.val]) (X : S128x8192.Idx → Elt F .f32) {hsrc hdst}
    {α : Type} {Q : α → sProp 𝕄} {kk : PUnit → Prog (TpuEff nD τ sig (Elt F) Λ₀ .tc) α} :
    iprop(Facts m K Ks ∗ Flt c a k R b X ∗ oweP c T)
      ⊢ iprop((((∃ g : S2048x16384.Idx → Elt F .f32, ⌜∀ j ∈ winSet R b, g j = X (oix (j 0).val (j 1).val)⌝ ∗ (locO c ↦[winSet R b]{fullShare} g))
            ∗ owns (c : Thread nD τ) a fullShare X ∗ semVal ((c : Thread nD τ), .dma (outS k)) 0 ∗ oweP c T)
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.waitDma2 (((cc0_scratch6 : DmaSems sig S2).slice (Rect.unit (s := S2) offS S1.size hS)).squeeze S_ squeezes_S1_S_).sem a (winM off h)
            hsrc hdst) kk) Q) := by
  rw [outS_eq offS hS k eS]
  unfold oweP Flt
  iintro ⟨#HF, ⟨%fs, %g, %hfg, Hfl⟩, ⟨%W, HO⟩⟩ Hk
  iapply (Transfers.wp_waitLocalO EC 𝒱₀ (c : Thread nD τ) none (srcw := a) (dstw := winM off h) (sem := outS k) 2 (creditO off h) (O := owedT c T) (W := W)) $$ [Hfl HO]
  · isplitl [Hfl]; · iexact Hfl
    isplitl [HO]; · iexact HO
    iapply (mayWait_two c _ T); iapply (facts_lev m K Ks); iexact HF
  iintro ⟨⟨Hd, Ha⟩, Hv, HO⟩
  iapply Hk
  isplitl [Hd]
  · iexists g
    isplitr; · ipureintro; exact hfg.2
    iexact Hd
  isplitl [Ha]
  · unfold owns
    iexists fs
    isplitr; · ipureintro; exact hfg.1
    iexact Ha
  isplitl [Hv]; · iexact Hv
  iexists _; iexact HO

end Soft

end Cert.Exchange

end
-- ==== Proof.Softmax.lean ====
/-
# `Softmax`: one sub-block of the softmax
-/
module

public import proofs.«01_k».proof.Proof.SoftRules

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Soft
variable (K : Dev nD × Fin 10 → ℕ) (Ks : Slot → ℕ) (c : Dev nD)

/-- The two staging buffers of the result. -/
abbrev bufA : Memref sig .tc .vmem S128x8192 .f32 := Memref.whole cc0_scratch2
abbrev bufB : Memref sig .tc .vmem S128x8192 .f32 := Memref.whole cc0_scratch3

/-- Between two sub-blocks: nothing under way, `s` sub-blocks of chunk `k` written. -/
def idleP (k s : ℕ) : sProp 𝕄 :=
  iprop((∃ f : Buf (Elt F) (locO c), ⌜Done m c (512 * k + 128 * s) f⌝ ∗ (locO c ↦{fullShare} f))
    ∗ (∃ X, owns (c : Thread nD τ) bufA fullShare X) ∗ (∃ X, owns (c : Thread nD τ) bufB fullShare X)
    ∗ semVal ((c : Thread nD τ), .dma (outS 0)) 0 ∗ semVal ((c : Thread nD τ), .dma (outS 1)) 0)

/-- Sub-block `s` of chunk `k` on its way to the result. -/
def flyP (k : ℕ) (s : Fin 4) : sProp 𝕄 :=
  iprop((∃ f : Buf (Elt F) (locO c), ⌜Done m c (512 * k + 128 * s.val) f⌝
      ∗ (locO c ↦[(Finset.univ \ winSet (512 * k + 128 * s.val) (half c)) \ winSet (512 * k + 128 * s.val) (1 - half c)]{fullShare} f))
    ∗ Flt c bufA 0 (512 * k + 128 * s.val) (half c) (paV m c k s) ∗ Flt c bufB 1 (512 * k + 128 * s.val) (1 - half c) (pbV m c k s))

theorem win_sub (R : ℕ) : winSet R (1 - half c) ⊆ Finset.univ \ winSet R (half c) := by
  intro j hj
  have h := mem_winSet.mp hj
  have := half_lt c
  refine Finset.mem_sdiff.mpr ⟨Finset.mem_univ _, fun h' => ?_⟩
  have h' := mem_winSet.mp h'
  omega

theorem out_split (R : ℕ) (f : Buf (Elt F) (locO c)) :
    (locO c ↦{fullShare} f : sProp 𝕄) ⊢ iprop((locO c ↦[winSet R (half c)]{fullShare} f) ∗ (locO c ↦[winSet R (1 - half c)]{fullShare} f)
      ∗ (locO c ↦[(Finset.univ \ winSet R (half c)) \ winSet R (1 - half c)]{fullShare} f)) := by
  iintro H
  ihave H := (pointsTo_split_subset (Finset.subset_univ (winSet R (half c)))).1 $$ H
  icases H with ⟨H1, H⟩
  ihave H := (pointsTo_split_subset (win_sub c R)).1 $$ H
  icases H with ⟨H2, H⟩
  isplitl [H1]; · iexact H1
  isplitl [H2]; · iexact H2
  iexact H

theorem out_join (k : ℕ) (s : Fin 4) (f gA gB : S2048x16384.Idx → Elt F .f32) (hf : Done m c (512 * k + 128 * s.val) f)
    (hA : ∀ j ∈ winSet (512 * k + 128 * s.val) (half c), gA j = paV m c k s (oix (j 0).val (j 1).val))
    (hB : ∀ j ∈ winSet (512 * k + 128 * s.val) (1 - half c), gB j = pbV m c k s (oix (j 0).val (j 1).val)) :
    iprop((locO c ↦[winSet (512 * k + 128 * s.val) (half c)]{fullShare} gA) ∗ (locO c ↦[winSet (512 * k + 128 * s.val) (1 - half c)]{fullShare} gB)
      ∗ (locO c ↦[(Finset.univ \ winSet (512 * k + 128 * s.val) (half c)) \ winSet (512 * k + 128 * s.val) (1 - half c)]{fullShare} f))
    ⊢ iprop(∃ f : Buf (Elt F) (locO c), ⌜Done m c (512 * k + 128 * (s.val + 1)) f⌝ ∗ (locO c ↦{fullShare} f) : sProp 𝕄) := by
  iintro ⟨H1, H2, H⟩
  ihave H := (pointsTo_join_subset (ℓ := locO c) (q := fullShare) (g := gB) (f := f) (win_sub c (512 * k + 128 * s.val))) $$ [H2 H]
  · isplitl [H2]; · iexact H2
    iexact H
  ihave H := (pointsTo_join_subset (ℓ := locO c) (q := fullShare) (g := gA) (Finset.subset_univ (winSet (512 * k + 128 * s.val) (half c)))) $$ [H1 H]
  · isplitl [H1]; · iexact H1
    iexact H
  iexists _
  isplitr [H]
  rotate_left
  · iexact H
  ipureintro
  intro j hj
  have hs := s.isLt
  have hh := half_lt c
  have h1 : (j 1).val < 16384 := (j 1).isLt
  by_cases a : j ∈ winSet (512 * k + 128 * s.val) (half c)
  · rw [Finset.piecewise_eq_of_mem _ _ _ a, hA j a]
    have a' := mem_winSet.mp a
    have e1 : (j 0).val / 512 = k := by omega
    have e2 : (⟨(j 0).val / 128 % 4, Nat.mod_lt _ (by decide)⟩ : Fin 4) = s := Fin.ext (by show (j 0).val / 128 % 4 = s.val; omega)
    unfold OutF
    rw [if_pos a'.2, e1, e2]
  rw [Finset.piecewise_eq_of_notMem _ _ _ a]
  by_cases b : j ∈ winSet (512 * k + 128 * s.val) (1 - half c)
  · rw [Finset.piecewise_eq_of_mem _ _ _ b, hB j b]
    have b' := mem_winSet.mp b
    have e1 : (j 0).val / 512 = k := by omega
    have e2 : (⟨(j 0).val / 128 % 4, Nat.mod_lt _ (by decide)⟩ : Fin 4) = s := Fin.ext (by show (j 0).val / 128 % 4 = s.val; omega)
    unfold OutF
    rw [if_neg (by omega), e1, e2]
  rw [Finset.piecewise_eq_of_notMem _ _ _ b]
  refine hf j ?_
  by_contra hlt
  rcases (by omega : (j 1).val / 8192 = half c ∨ (j 1).val / 8192 = 1 - half c) with h | h
  · exact a (mem_winSet.mpr ⟨by omega, h⟩)
  · exact b (mem_winSet.mpr ⟨by omega, h⟩)

set_option maxHeartbeats 1600000 in
/-- One sub-block: the exponentials staged, divided in place, sent to the result. -/
theorem run_sub (k : ℕ) (s : Fin 4) (s' : ℕ) (hs : s' = s.val) (offA offB : Fin 2 → ℕ) (hA hB) (eqA : offA = ![512 * k + 128 * s.val, 8192 * half c])
    (eqB : offB = ![512 * k + 128 * s.val, 8192 * (1 - half c)])
    {α : Type} {Q : α → sProp 𝕄} {kk : PUnit → Prog (TpuEff nD τ sig (Elt F) Λ₀ .tc) α} :
    idleP m c k s'
      ⊢ iprop((flyP m c k s -∗ wp frame (wpE (defs₀ (F := F)) 𝒱₀ (c : Thread nD τ) none) Set.univ (kk ⟨⟩) Q)
        -∗ wp frame (wpE (defs₀ (F := F)) 𝒱₀ (c : Thread nD τ) none) Set.univ
          (.op (.load bufA (Rect.unit (s := S128x8192) ![0, 0] S128x8192.size inb_S128x8192_S128x8192_0_0).toLoadRect (View.loadsAt_vmem h_S128x8192)) fun _ =>
          (.op (.store bufA (Rect.unit (s := S128x8192) ![0, 0] S128x8192.size inb_S128x8192_S128x8192_0_0) (eA m c k s) Finset.univ (View.stores_vmem_bits_univ h_S128x8192 rfl) (.inl rfl)) fun _ =>
          (.op (.load bufB (Rect.unit (s := S128x8192) ![0, 0] S128x8192.size inb_S128x8192_S128x8192_0_0).toLoadRect (View.loadsAt_vmem h_S128x8192)) fun _ =>
          (.op (.store bufB (Rect.unit (s := S128x8192) ![0, 0] S128x8192.size inb_S128x8192_S128x8192_0_0) (eB m c k s) Finset.univ (View.stores_vmem_bits_univ h_S128x8192 rfl) (.inl rfl)) fun _ =>
          (.op (.load bufA (Rect.unit (s := S128x8192) ![0, 0] S128x8192.size inb_S128x8192_S128x8192_0_0).toLoadRect (View.loadsAt_vmem h_S128x8192)) fun a =>
          (.op (.load bufB (Rect.unit (s := S128x8192) ![0, 0] S128x8192.size inb_S128x8192_S128x8192_0_0).toLoadRect (View.loadsAt_vmem h_S128x8192)) fun b =>
          (.op (.load bufA (Rect.unit (s := S128x8192) ![0, 0] S128x8192.size inb_S128x8192_S128x8192_0_0).toLoadRect (View.loadsAt_vmem h_S128x8192)) fun a' =>
          (.op (.load bufA (Rect.unit (s := S128x8192) ![0, 0] S128x8192.size inb_S128x8192_S128x8192_0_0).toLoadRect (View.loadsAt_vmem h_S128x8192)) fun _ =>
          (.op (.store bufA (Rect.unit (s := S128x8192) ![0, 0] S128x8192.size inb_S128x8192_S128x8192_0_0) (k0_pay8 a b a') Finset.univ (View.stores_vmem_bits_univ h_S128x8192 rfl) (.inl rfl)) fun _ =>
          (.op (.load bufB (Rect.unit (s := S128x8192) ![0, 0] S128x8192.size inb_S128x8192_S128x8192_0_0).toLoadRect (View.loadsAt_vmem h_S128x8192)) fun b' =>
          (.op (.load bufB (Rect.unit (s := S128x8192) ![0, 0] S128x8192.size inb_S128x8192_S128x8192_0_0).toLoadRect (View.loadsAt_vmem h_S128x8192)) fun _ =>
          (.op (.store bufB (Rect.unit (s := S128x8192) ![0, 0] S128x8192.size inb_S128x8192_S128x8192_0_0) (k0_pay9 a b b') Finset.univ (View.stores_vmem_bits_univ h_S128x8192 rfl) (.inl rfl)) fun _ =>
          (.op (.enqueueDma bufA (.here (winM offA hA)) (.dma (((cc0_scratch6 : DmaSems sig S2).slice (Rect.unit (s := S2) ![0] S1.size inb_S2_S1_0)).squeeze S_ squeezes_S1_S_).sem) ((Memref.isWhole_whole cc0_scratch2).wordExact) (View.wordExact_bits rfl) ⟨Or.inl rfl, trivial⟩) fun _ =>
          (.op (.enqueueDma bufB (.here (winM offB hB)) (.dma (((cc0_scratch6 : DmaSems sig S2).slice (Rect.unit (s := S2) ![1] S1.size inb_S2_S1_1)).squeeze S_ squeezes_S1_S_).sem) ((Memref.isWhole_whole cc0_scratch3).wordExact) (View.wordExact_bits rfl) ⟨Or.inl rfl, trivial⟩) kk)))))))))))))) Q) := by
  subst hs
  unfold idleP
  iintro ⟨⟨%fo, %hfo, HO⟩, ⟨%X, HA⟩, ⟨%Y, HB⟩, Hs0, Hs1⟩ Hk
  iapply (load_owns c bufA ![0, 0] inb_S128x8192_S128x8192_0_0 X) $$ HA
  iintro HA
  iapply (store_owns c bufA ![0, 0] inb_S128x8192_S128x8192_0_0 X (eA m c k s)) $$ HA
  iintro HA
  iapply (load_owns c bufB ![0, 0] inb_S128x8192_S128x8192_0_0 Y) $$ HB
  iintro HB
  iapply (store_owns c bufB ![0, 0] inb_S128x8192_S128x8192_0_0 Y (eB m c k s)) $$ HB
  iintro HB
  iapply (load_owns c bufA ![0, 0] inb_S128x8192_S128x8192_0_0 (eA m c k s)) $$ HA
  iintro HA
  iapply (load_owns c bufB ![0, 0] inb_S128x8192_S128x8192_0_0 (eB m c k s)) $$ HB
  iintro HB
  iapply (load_owns c bufA ![0, 0] inb_S128x8192_S128x8192_0_0 (eA m c k s)) $$ HA
  iintro HA
  iapply (load_owns c bufA ![0, 0] inb_S128x8192_S128x8192_0_0 (eA m c k s)) $$ HA
  iintro HA
  iapply (store_owns c bufA ![0, 0] inb_S128x8192_S128x8192_0_0 (eA m c k s) (paV m c k s)) $$ HA
  iintro HA
  iapply (load_owns c bufB ![0, 0] inb_S128x8192_S128x8192_0_0 (eB m c k s)) $$ HB
  iintro HB
  iapply (load_owns c bufB ![0, 0] inb_S128x8192_S128x8192_0_0 (eB m c k s)) $$ HB
  iintro HB
  iapply (store_owns c bufB ![0, 0] inb_S128x8192_S128x8192_0_0 (eB m c k s) (pbV m c k s)) $$ HB
  iintro HB
  ihave HO := (out_split c (512 * k + 128 * s.val) fo) $$ HO
  icases HO with ⟨HO1, HO2, HO⟩
  iapply (enq_rule c bufA 0 (512 * k + 128 * s.val) (half c) (by omega) offA hA eqA ![0] inb_S2_S1_0 rfl (paV m c k s) fo) $$ [HA HO1 Hs0]
  · isplitl [HA]; · iexact HA
    isplitl [HO1]; · iexact HO1
    iexact Hs0
  iintro HFA
  iapply (enq_rule c bufB 1 (512 * k + 128 * s.val) (1 - half c) (by omega) offB hB eqB ![1] inb_S2_S1_1 rfl (pbV m c k s) fo) $$ [HB HO2 Hs1]
  · isplitl [HB]; · iexact HB
    isplitl [HO2]; · iexact HO2
    iexact Hs1
  iintro HFB
  iapply Hk
  unfold flyP
  isplitl [HO]
  · iexists fo
    isplitr; · ipureintro; exact hfo
    iexact HO
  isplitl [HFA]; · iexact HFA
  iexact HFB

/-- The sub-block's copies waited for. -/
theorem run_wait (T k : ℕ) (s : Fin 4) (offA offB : Fin 2 → ℕ) (hA hB)
    {α : Type} {Q : α → sProp 𝕄} {kk : PUnit → Prog (TpuEff nD τ sig (Elt F) Λ₀ .tc) α} :
    iprop(Facts m K Ks ∗ flyP m c k s ∗ oweP c T)
      ⊢ iprop(((idleP m c k (s.val + 1) ∗ oweP c T) -∗ wp frame (wpE (defs₀ (F := F)) 𝒱₀ (c : Thread nD τ) none) Set.univ (kk ⟨⟩) Q)
        -∗ wp frame (wpE (defs₀ (F := F)) 𝒱₀ (c : Thread nD τ) none) Set.univ
          (.op (.waitDma2 (((cc0_scratch6 : DmaSems sig S2).slice (Rect.unit (s := S2) ![0] S1.size inb_S2_S1_0)).squeeze S_ squeezes_S1_S_).sem bufA (winM offA hA) ((Memref.isWhole_whole cc0_scratch2).wordExact) (View.wordExact_bits rfl)) fun _ =>
            (.op (.waitDma2 (((cc0_scratch6 : DmaSems sig S2).slice (Rect.unit (s := S2) ![1] S1.size inb_S2_S1_1)).squeeze S_ squeezes_S1_S_).sem bufB (winM offB hB) ((Memref.isWhole_whole cc0_scratch3).wordExact) (View.wordExact_bits rfl)) kk)) Q) := by
  unfold flyP
  iintro ⟨#HF, ⟨⟨%fo, %hfo, HO⟩, HFA, HFB⟩, HW⟩ Hk
  iapply (wait_rule m K Ks c T bufA 0 (512 * k + 128 * s.val) (half c) offA hA ![0] inb_S2_S1_0 rfl (paV m c k s)) $$ [HFA HW]
  · isplitr; · iexact HF
    isplitl [HFA]; · iexact HFA
    iexact HW
  iintro ⟨⟨%gA, %hgA, HOA⟩, HA, Hs0, HW⟩
  iapply (wait_rule m K Ks c T bufB 1 (512 * k + 128 * s.val) (1 - half c) offB hB ![1] inb_S2_S1_1 rfl (pbV m c k s)) $$ [HFB HW]
  · isplitr; · iexact HF
    isplitl [HFB]; · iexact HFB
    iexact HW
  iintro ⟨⟨%gB, %hgB, HOB⟩, HB, Hs1, HW⟩
  iapply Hk
  isplitr [HW]
  rotate_left
  · iexact HW
  unfold idleP
  isplitl [HO HOA HOB]
  · iapply (out_join m c k s fo gA gB hfo hgA hgB)
    isplitl [HOA]; · iexact HOA
    isplitl [HOB]; · iexact HOB
    iexact HO
  isplitl [HA]; · iexists _; iexact HA
  isplitl [HB]; · iexists _; iexact HB
  isplitl [Hs0]; · iexact Hs0
  iexact Hs1

end Soft

end Cert.Exchange

end
-- ==== Proof.Stages4.lean ====
/-
# `Stages4`: the stage that divides a chunk's rows by their sums
-/
module

public import proofs.«01_k».proof.Proof.Softmax

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Stage
variable (K : Dev nD × Fin 10 → ℕ) (Ks : Slot → ℕ) (c : Dev nD) (i : grid0.Coords) (n : ℕ)

theorem recvP_mid (T : ℕ) (k : Fin 4) (h : T ≤ tRecv k) :
    recvP (F := F) c T k = iprop(atPos ER (recvC c k) 0 ∅ 0 ∗ cred (tallyAt (recvC c k) 0 N)) := by unfold recvP; rw [if_pos h]
theorem recvP_end (T : ℕ) (k : Fin 4) (h : tRecv k < T) : recvP (F := F) c T k = atPos ER (recvC c k) 1 ∅ 0 := by
  unfold recvP; rw [if_neg (by omega)]

/-- The wait for the partner's chunk. -/
theorem wait_recv (k : Fin 4) (T : ℕ) (hT : tRecv k ≤ T) {α : Type} {Q : α → sProp 𝕄} {kk : PUnit → Prog (TpuEff nD τ sig (Elt F) Λ₀ .tc) α}
    (offS : Fin 1 → ℕ) (hS) (eS : offS = ![k.val]) (off : Fin 3 → ℕ) (h) {h1 h2} :
    iprop(Facts m K Ks ∗ (atPos ER (recvC c k) 0 ∅ 0 ∗ cred (tallyAt (recvC c k) 0 N)) ∗ oweP c T)
      ⊢ iprop(((atPos ER (recvC c k) 1 ∅ 0 ∗ rsv m c k.val (k.val % 2) ∗ oweP c T) -∗ wp frame (wpE (defs₀ (F := F)) 𝒱₀ (c : Thread nD τ) none) Set.univ (kk ⟨⟩) Q)
        -∗ wp frame (wpE (defs₀ (F := F)) 𝒱₀ (c : Thread nD τ) none) Set.univ
          (.op (.waitDma2 (((cc0_scratch5 : DmaSems sig S4).slice (Rect.unit (s := S4) offS S1.size hS)).squeeze S_ squeezes_S1_S_).sem
            (slotL off h) (slotR off h) h1 h2) kk) Q) := by
  rw [recvS_eq offS hS k eS]
  unfold oweP
  iintro ⟨#HF, ⟨Hat, Hcr⟩, ⟨%W, HO⟩⟩ Hk
  ihave #⟨Hib, -⟩ := (facts_recv m K Ks c k) $$ HF
  iapply (Rounds.wp_wait_rest_token 𝒱₀ ER (Rd m) (c : Thread nD τ) none (κ := K (c, jRecv k))
    (wpE_waitDma2_eq 𝒱₀ (c : Thread nD τ) none Set.univ) (Set.mem_univ _) 0 (O := owedT c T) (W := W) (R := 0) (m := 0) (T := ∅)
    (by rw [expect_recv, creditR, Nat.zero_add])) $$ [Hcr HO Hat]
  · isplitr; · iexact Hib
    isplitl [Hcr]; · iexact Hcr
    isplitl [HO]; · iexact HO
    isplitr; · iapply (mayWait_recv c k T hT); iapply (facts_lev m K Ks); iexact HF
    iexact Hat
  iintro ⟨HO, Hat, -, Hpay⟩
  ihave Hp := (Entails.of_eq (rest_recv m c k)) $$ Hpay
  iapply Hk
  isplitl [Hat]; · iexact Hat
  isplitl [Hp]; · iexact Hp
  iexists _; iexact HO

theorem logP_read (T : ℕ) (k : Fin 4) (h : T = tRecv k) : logP m c T (slotOf k) = lsv m c fullShare.right k (k.val % 2) 32 := by
  have hk := k.isLt
  subst h
  unfold logP slotOf
  dsimp only
  by_cases h2 : k.val < 2
  · rw [if_neg (by unfold tSend tRecv; omega), if_pos (by unfold tRecv tSw; rw [if_pos (by omega)]; omega), show k.val % 2 = k.val from by omega]
  · rw [if_neg (by unfold tSend tRecv; omega), if_neg (by unfold tRecv tSw; rw [if_pos (by omega)]; omega), if_neg (by unfold tSend tRecv; omega),
      if_pos (by unfold tRecv tSw; rw [if_neg (by omega)]; omega), show k.val % 2 + 2 = k.val from by omega]

/-- A landing slot over the arrival of chunk `k`. -/
theorem landP_recv (T : ℕ) (k : Fin 4) (h : T = tRecv k) :
    iprop(landP m c T (slotOf k) ∗ rsv m c k.val (k.val % 2)) ⊢ landP m c (T + 1) (slotOf k) := by
  have hk := k.isLt
  subst h
  unfold landP slotOf
  dsimp only
  by_cases h2 : k.val < 2
  · have e : rsv m c (k.val % 2) (k.val % 2) = rsv m c k.val (k.val % 2) := congrArg (fun x => rsv m c x (k.val % 2)) (by omega)
    rw [if_neg (by unfold tRecv; omega), if_pos (by unfold tRecv; omega), if_neg (by unfold tRecv; omega), if_neg (by unfold tRecv; omega),
      if_pos (by unfold tRecv tCred; omega), e]
    exact sep_comm.1
  · rw [if_neg (by unfold tRecv; omega), if_neg (by unfold tRecv; omega), if_neg (by unfold tRecv tCred; omega), if_pos (by unfold tRecv; omega),
      if_neg (by unfold tRecv; omega), if_neg (by unfold tRecv; omega), if_neg (by unfold tRecv tCred; omega), if_neg (by unfold tRecv; omega),
      show k.val % 2 + 2 = k.val from by omega]

theorem outP_idle (T : ℕ) (k : ℕ) (h : T = tRecv k) : outP m c T ⊢ idleP m c k 0 := by
  subst h
  unfold outP idleP
  rw [show 512 * cntOut (tRecv k) = 512 * k + 128 * 0 from by unfold cntOut tRecv; omega]
  iintro ⟨HO, ⟨%f, HA⟩, ⟨%g, HB⟩, H0, H1⟩
  isplitl [HO]; · iexact HO
  isplitl [HA]; · iexists f; iapply (Entails.of_eq (owns_whole (c : Thread nD τ) cc0_scratch2 fullShare f).symm); iexact HA
  isplitl [HB]; · iexists g; iapply (Entails.of_eq (owns_whole (c : Thread nD τ) cc0_scratch3 fullShare g).symm); iexact HB
  isplitl [H0]; · iexact H0
  iexact H1

theorem idle_outP (T : ℕ) (k : ℕ) (h : T = tRecv k) (s : ℕ) (hs : s = 4) : idleP m c k s ⊢ outP m c (T + 1) := by
  subst h hs
  unfold outP idleP
  rw [show 512 * cntOut (tRecv k + 1) = 512 * k + 128 * 4 from by unfold cntOut tRecv; omega]
  iintro ⟨HO, ⟨%f, HA⟩, ⟨%g, HB⟩, H0, H1⟩
  isplitl [HO]; · iexact HO
  isplitl [HA]; · iexists f; iapply (Entails.of_eq (owns_whole (c : Thread nD τ) cc0_scratch2 fullShare f)); iexact HA
  isplitl [HB]; · iexists g; iapply (Entails.of_eq (owns_whole (c : Thread nD τ) cc0_scratch3 fullShare g)); iexact HB
  isplitl [H0]; · iexact H0
  iexact H1

set_option maxHeartbeats 4000000 in
/-- The partner's chunk awaited, the chunk's rows divided by their sums and copied to the result. -/
theorem stage5 (hc : k0_cond6 i = 1#1) (h0 : (i 0).val = n / 32) (h1 : (i 1).val = n % 32) (hn : n < 160)
    (arg2 : Memref sig .tc .vmem S512x4096 .bf16) (harg2 : arg2.IsWhole) (arg3 : Memref sig .tc .vmem S4096x256 .bf16) (harg3 : arg3.IsWhole)
    (arg0 v2 v5 v8 v9 : BitVec 32) (tail : Prog (TpuEff nD τ sig (Elt F) Λ₀ .tc) PUnit) (Kt : PUnit → sProp 𝕄) :
    stagePre m K Ks c (8 * n + 5) (wp frame (wpE (defs₀ (F := F)) 𝒱₀ (c : Thread nD τ) none) Set.univ tail Kt) ⊢ wp frame (wpE (defs₀ (F := F)) 𝒱₀ (c : Thread nD τ) none) Set.univ
      (do
        let ⟨v41, v75⟩ : Σ' (v41 : BitVec 32), BitVec 32 ← k0_part2 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 arg0 v2 v8 v9 hc
        let v116 : FVec F S128x8192 .f32 ← k0_part3 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 hc v41 v75
        k0_part4 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 c v5 hc v41 v116
        let ⟨v164, v177, v185, v186⟩ : Σ' (v164 : FVec F S128x8192 .bf16) (v177 : FVec F S128x8192 .bf16) (v185 : FVec F S128x1 .bf16), FVec F S128 .bf16 ← k0_part5 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 c hc v41
        let v224 : FVec F S128x8192 .f32 ← k0_part6 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 v164 v177 v185 v186
        let v248 : FVec F S128x8192 .bf16 ← k0_part7 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 c v5 hc v41 v224
        let ⟨v296, v297⟩ : Σ' (v296 : FVec F S128x1 .f32), Vec F S128x8192 .f32 ← k0_part8 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 c hc v248
        let v332 : FVec F S128x8192 .bf16 ← k0_part9 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 c v5 hc v41 v296 v297
        k0_part10 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 c hc v41 v332
        k0_part11 i arg2 harg2 arg3 harg3 (Memref.whole main_v1) (Memref.isWhole_whole _) (Memref.whole cc0_scratch0) (Memref.isWhole_whole _) (Memref.whole cc0_scratch1) (Memref.isWhole_whole _) bufA (Memref.isWhole_whole _) bufB (Memref.isWhole_whole _) cc0_scratch4 cc0_scratch5 cc0_scratch6 cc0_scratch7 c v5 hc v41
        let v406 : Memref sig .tc .hbm S128x8192 .f32 := (Memref.whole main_v1 : Memref sig .tc .hbm S2048x16384 .f32).slice (Rect.unit (s := S2048x16384) (k0_off9 i c 384#32) S128x8192.size (k0_off9_inb i c hc 3)) (fun _ => rfl)
        let v404 : DmaSems sig S1 := cc0_scratch6.slice (Rect.unit (s := S2) ![0] S1.size inb_S2_S1_0)
        let v405 : DmaSems sig S_ := v404.squeeze S_ squeezes_S1_S_
        Prog.lift (.waitDma2 v405.sem bufA v406 (Memref.isWhole_whole cc0_scratch2).wordExact (View.wordExact_bits rfl))
        let v407 : DmaSems sig S1 := cc0_scratch6.slice (Rect.unit (s := S2) ![1] S1.size inb_S2_S1_1)
        let v408 : DmaSems sig S_ := v407.squeeze S_ squeezes_S1_S_
        let v409 : Memref sig .tc .hbm S128x8192 .f32 := (Memref.whole main_v1 : Memref sig .tc .hbm S2048x16384 .f32).slice (Rect.unit (s := S2048x16384) (k0_off10 i c 384#32) S128x8192.size (k0_off10_inb i c hc 3)) (fun _ => rfl)
        Prog.lift (.waitDma2 v408.sem bufB v409 (Memref.isWhole_whole cc0_scratch3).wordExact (View.wordExact_bits rfl))

        tail) Kt := by
  obtain ⟨ha, hb⟩ := (cond6_iff i).mp hc
  obtain ⟨k, hk⟩ : ∃ k : Fin 4, k.val = n / 32 - 1 := ⟨⟨n / 32 - 1, by omega⟩, rfl⟩
  have hk4 := k.isLt
  have h0' : (i 0).val - 1 = n / 32 - 1 := by rw [h0]
  have hTT : 8 * n + 5 = tRecv k := by unfold tRecv; omega
  unfold stagePre St
  rw [← barP_succ c (8 * n + 5) (by omega), ← sends_succ c (8 * n + 5) (by omega), ← gives_succ c (8 * n + 5) (by omega),
    ← takeP_succ c (8 * n + 5) (by omega) (by omega), ← oweP_succ c (8 * n + 5) (by omega) (by omega) (by omega)]
  simp only [k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, Prog.lift, Prog.bind_op, Prog.bind_ret, Prog.pure_eq_ret]
  iintro ⟨#HF, ⟨⟨Hbar, Hse, Hre, Hlo, Hla, Hgi, Hta, Hou⟩, HO⟩, Hk⟩
  ihave Hre := (bigSep_univ_update (Φ := recvP c (8 * n + 5)) (Ψ := recvP c (8 * n + 5 + 1)) k (fun j hj => by
    have hv : j.val ≠ k.val := fun e => hj (Fin.ext e)
    exact (recvP_succ c (8 * n + 5) j (by omega)).symm)) $$ Hre
  icases Hre with ⟨Hr, Hre⟩
  ihave Hlo := (bigSep_univ_update (Φ := logP m c (8 * n + 5)) (Ψ := logP m c (8 * n + 5 + 1)) (slotOf k) (fun j hj => by
    have := j.isLt
    exact (logP_succ m c (8 * n + 5) j (by omega) (by omega) (by omega) (by omega) (by omega)).symm)) $$ Hlo
  icases Hlo with ⟨Hl, Hlo⟩
  ihave Hla := (bigSep_univ_update (Φ := landP m c (8 * n + 5)) (Ψ := landP m c (8 * n + 5 + 1)) (slotOf k) (fun j hj => by
    have hv : j.val ≠ k.val % 2 := fun e => hj (Fin.ext e)
    have := j.isLt
    exact (landP_succ m c (8 * n + 5) j (by omega) (by omega) (by omega) (by omega)).symm)) $$ Hla
  icases Hla with ⟨Hd, Hla⟩
  ihave Hl := (Entails.of_eq (logP_read m c (8 * n + 5) k hTT)) $$ Hl
  ihave Hr := (Entails.of_eq (recvP_mid c (8 * n + 5) k hTT.le)) $$ Hr
  ihave Hid := (outP_idle m c (8 * n + 5) k.val hTT) $$ Hou
  iapply (wait_recv m K Ks c k (8 * n + 5) hTT.ge _ _ (by rw [off6_eq i hc, h0', ← hk]) _ _) $$ [Hr HO]
  · isplitr; · iexact HF
    isplitl [Hr]; · iexact Hr
    iexact HO
  iintro ⟨Hat, Hr, HO⟩
  iapply (load_own m c k.val (k.val % 2) 0 fullShare.right _ _ (by rw [off8_eq i hc, h0', ← hk]; rfl)) $$ Hl
  iintro Hl
  iapply (load_peer m c k.val (k.val % 2) 0 _ _ (by rw [off8_eq i hc, h0', ← hk]; rfl)) $$ Hr
  iintro Hr
  iapply (run_sub m c k.val 0 0 rfl _ _ _ _ (by refine (off9_eq i hc c 0).trans ?_; rw [h0', ← hk]) (by refine (off10_eq i hc c 0).trans ?_; rw [h0', ← hk])) $$ Hid
  iintro Hfl
  iapply (load_own m c k.val (k.val % 2) 1 fullShare.right _ _ (by rw [off11_eq i hc, h0', ← hk]; rfl)) $$ Hl
  iintro Hl
  iapply (load_peer m c k.val (k.val % 2) 1 _ _ (by rw [off11_eq i hc, h0', ← hk]; rfl)) $$ Hr
  iintro Hr
  iapply (run_wait m K Ks c (8 * n + 5) k.val 0 _ _ _ _) $$ [Hfl HO]
  · isplitr; · iexact HF
    isplitl [Hfl]; · iexact Hfl
    iexact HO
  iintro ⟨Hid, HO⟩
  iapply (run_sub m c k.val 1 (((0 : Fin 4)).val + 1) rfl _ _ _ _ (by refine (off9_eq i hc c 1).trans ?_; rw [h0', ← hk]) (by refine (off10_eq i hc c 1).trans ?_; rw [h0', ← hk])) $$ Hid
  iintro Hfl
  iapply (load_own m c k.val (k.val % 2) 2 fullShare.right _ _ (by rw [off12_eq i hc, h0', ← hk]; rfl)) $$ Hl
  iintro Hl
  iapply (load_peer m c k.val (k.val % 2) 2 _ _ (by rw [off12_eq i hc, h0', ← hk]; rfl)) $$ Hr
  iintro Hr
  iapply (run_wait m K Ks c (8 * n + 5) k.val 1 _ _ _ _) $$ [Hfl HO]
  · isplitr; · iexact HF
    isplitl [Hfl]; · iexact Hfl
    iexact HO
  iintro ⟨Hid, HO⟩
  iapply (run_sub m c k.val 2 (((1 : Fin 4)).val + 1) rfl _ _ _ _ (by refine (off9_eq i hc c 2).trans ?_; rw [h0', ← hk]) (by refine (off10_eq i hc c 2).trans ?_; rw [h0', ← hk])) $$ Hid
  iintro Hfl
  iapply (load_own m c k.val (k.val % 2) 3 fullShare.right _ _ (by rw [off13_eq i hc, h0', ← hk]; rfl)) $$ Hl
  iintro Hl
  iapply (load_peer m c k.val (k.val % 2) 3 _ _ (by rw [off13_eq i hc, h0', ← hk]; rfl)) $$ Hr
  iintro Hr
  iapply (run_wait m K Ks c (8 * n + 5) k.val 2 _ _ _ _) $$ [Hfl HO]
  · isplitr; · iexact HF
    isplitl [Hfl]; · iexact Hfl
    iexact HO
  iintro ⟨Hid, HO⟩
  iapply (run_sub m c k.val 3 (((2 : Fin 4)).val + 1) rfl _ _ _ _ (by refine (off9_eq i hc c 3).trans ?_; rw [h0', ← hk]) (by refine (off10_eq i hc c 3).trans ?_; rw [h0', ← hk])) $$ Hid
  iintro Hfl
  iapply (run_wait m K Ks c (8 * n + 5) k.val 3 _ _ _ _) $$ [Hfl HO]
  · isplitr; · iexact HF
    isplitl [Hfl]; · iexact Hfl
    iexact HO
  iintro ⟨Hid, HO⟩
  ihave Hou := (idle_outP m c (8 * n + 5) k.val hTT ((3 : Fin 4).val + 1) rfl) $$ Hid
  iapply Hk
  isplitr [HO]
  · isplitl [Hbar]; · iexact Hbar
    isplitl [Hse]; · iexact Hse
    isplitl [Hre Hat]
    · iapply Hre
      iapply (Entails.of_eq (recvP_end c (8 * n + 5 + 1) k (by omega)).symm)
      iexact Hat
    isplitl [Hlo Hl]
    · iapply Hlo
      iapply (Entails.of_eq ((logP_read m c (8 * n + 5) k hTT).symm.trans (logP_succ m c (8 * n + 5) (slotOf k) (by omega) (by omega) (by omega) (by omega) (by omega))))
      iexact Hl
    isplitl [Hla Hd Hr]
    · iapply Hla
      iapply (landP_recv m c (8 * n + 5) k hTT)
      isplitl [Hd]; · iexact Hd
      iexact Hr
    isplitl [Hgi]; · iexact Hgi
    isplitl [Hta]; · iexact Hta
    iexact Hou
  · iexact HO

end Stage

end Cert.Exchange

end
-- ==== Proof.Stages5.lean ====
/-
# `Stages5`: the stage that gives a credit
-/
module

public import proofs.«01_k».proof.Proof.Stages4

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Stage
variable (K : Dev nD × Fin 10 → ℕ) (Ks : Slot → ℕ) (c : Dev nD) (i : grid0.Coords) (n : ℕ)

set_option maxHeartbeats 1600000 in
/-- The credit: the landing slot of chunks 0 and 1 is released a second time and the partner told. -/
theorem stage6 (hc : k0_cond6 i = 1#1) (h0 : (i 0).val = n / 32) (h1 : (i 1).val = n % 32) (hn : n < 160) (Kt : PUnit → sProp 𝕄) :
    stagePre m K Ks c (8 * n + 6) (Kt ⟨⟩) ⊢ wp frame (wpE (defs₀ (F := F)) 𝒱₀ (c : Thread nD τ) none) Set.univ
      (if k0_h7 : k0_cond7 i = 1#1 then (do
        semSignalWord (⟨k0_dev3 c, k0_dev3_lt i c hc k0_h7⟩ : Dev nD) credS 1#32
        pure ⟨⟩) else (do pure ⟨⟩)) Kt := by
  obtain ⟨ha, hb⟩ := (cond6_iff i).mp hc
  unfold stagePre
  by_cases h7 : k0_cond7 i = 1#1
  swap
  · rw [dif_neg h7]
    have hne : ¬ (i 0).val < 3 := fun h => h7 ((cond7_iff i hb).mpr h)
    rw [← St_succ m c (8 * n + 6) (by omega) (by omega) (by omega) (by omega) (by omega) (by omega) (by omega) (by omega)]
    rw [Prog.pure_eq_ret, wp_ret]
    iintro ⟨-, HS, Hk⟩
    imodintro
    iapply Hk; iexact HS
  rw [dif_pos h7]
  have h7' := (cond7_iff i hb).mp h7
  unfold St
  rw [← barP_succ c (8 * n + 6) (by omega), ← sends_succ c (8 * n + 6) (by omega), ← recvs_succ c (8 * n + 6) (by omega),
    ← logs_succ m c (8 * n + 6) (by omega) (by omega), ← takeP_succ c (8 * n + 6) (by omega) (by omega), ← outP_succ m c (8 * n + 6) (by omega)]
  rcases (by omega : n = 63 ∨ n = 95) with hn' | hn'
  · obtain rfl : n = 63 := by omega
    have eA : landP m c (8 * 63 + 6) 0 = iprop(rsv m c 0 0 ∗ readerAt ES (c, 0) 1) := by
      unfold landP
      rw [if_neg (by omega), if_neg (by show ¬ _ ≤ 8 * (32 * 0 + 63) + 5; omega), if_pos (by show _ ≤ 8 * (32 * 0 + 63) + 6; omega)]
      rfl
    have eB : landP m c (8 * 63 + 6 + 1) 0 = iprop(readerAt ES (c, 0) 2 ∗ released ES (c, 0) 2) := by
      unfold landP
      rw [if_neg (by omega), if_neg (by show ¬ _ ≤ 8 * (32 * 0 + 63) + 5; omega), if_neg (by show ¬ _ ≤ 8 * (32 * 0 + 63) + 6; omega),
        if_pos (by show _ ≤ 8 * (32 * (0 + 2) + 63) + 5; omega)]
    have eC : giveP (F := F) c (8 * 63 + 6) 0 = dutyTok ER (credC (peer c)) 0 false := by
      unfold giveP; rw [if_pos (by show _ ≤ 8 * (32 * 0 + 63) + 6; omega)]; rfl
    have eD : giveP (F := F) c (8 * 63 + 6 + 1) 0 = iprop(emp) := by
      unfold giveP; rw [if_neg (by show ¬ _ ≤ 8 * (32 * 0 + 63) + 6; omega)]
    have eO : owedT c (8 * 63 + 6) = owedT c (8 * 63 + 6 + 1) + tallyAt (credC (peer c)) 0 1 := owedT_cred c 0
    simp only [semSignalWord, Prog.lift, Prog.bind_op, Prog.bind_ret, Prog.pure_eq_ret, dev3_eq c]
    rw [bigSep_univ_two (landP m c (8 * 63 + 6)), bigSep_univ_two (landP m c (8 * 63 + 6 + 1)), bigSep_univ_two (giveP c (8 * 63 + 6)),
      bigSep_univ_two (giveP c (8 * 63 + 6 + 1)), landP_succ m c (8 * 63 + 6) 1 (by omega) (by show _ ≠ 8 * (32 * 1 + 63) + 5; omega) (by show _ ≠ 8 * (32 * 1 + 63) + 6; omega) (by show _ ≠ 8 * (32 * (1 + 2) + 63) + 5; omega),
      giveP_succ c (8 * 63 + 6) 1 (by show _ ≠ 8 * (32 * 1 + 63) + 6; omega), eA, eB, eC, eD]
    unfold oweP rsv
    iintro ⟨#HF, ⟨⟨Hbar, Hse, Hre, Hlo, ⟨⟨⟨%f, -, Hs⟩, Hr⟩, Hla⟩, ⟨Htok, Hgi⟩, Hta, Hou⟩, ⟨%W, HO⟩⟩, Hk⟩
    ihave #Hi := (facts_slot m K Ks (c, 0)) $$ HF
    ihave #⟨Hip, Hrp⟩ := (facts_cred m K Ks (peer c)) $$ HF
    unfold slotF
    imod (slot_release ES (Set.mem_univ (Ks (c, 0))) (slot_excl c 0 (by decide)) 1) $$ [Hs Hr] with ⟨Hr, #HR⟩
    · isplitr; · iexact Hi
      isplitl [Hr]; · iexact Hr
      unfold rsAny
      iexists f
      iexact Hs
    iapply (Rounds.wp_signal 𝒱₀ ER (Rd m) (c : Thread nD τ) none (dst := (peer c : Thread nD τ)) (κ := K (peer c, 9))
      (d := false) (by rw [duties_cred]; exact Finset.mem_univ _) ((amount_reg m (peer c) credS 0 false).trans (by decide)) 0
      (owedT c (8 * 63 + 6 + 1)) eO) $$ [HO Htok]
    · isplitr; · iexact Hip
      isplitl [HO]; · iexact HO
      isplitl [Htok]; · iexact Htok
      isplitr
      · rw [payload_cred]; unfold credPay; rw [peer_peer]
        isplitr; · iexact HR
        rw [if_neg (by decide)]; iempintro
      iexact Hrp
    iintro HO
    rw [wp_ret]; imodintro
    iapply Hk
    isplitr [HO]
    · isplitl [Hbar]; · iexact Hbar
      isplitl [Hse]; · iexact Hse
      isplitl [Hre]; · iexact Hre
      isplitl [Hlo]; · iexact Hlo
      isplitl [Hr Hla]
      · isplitl [Hr]
        · isplitl [Hr]; · iexact Hr
          iexact HR
        iexact Hla
      isplitl [Hgi]
      · isplitr; · iempintro
        iexact Hgi
      isplitl [Hta]; · iexact Hta
      iexact Hou
    · iexists W; iexact HO
  · obtain rfl : n = 95 := by omega
    have eA : landP m c (8 * 95 + 6) 1 = iprop(rsv m c 1 1 ∗ readerAt ES (c, 1) 1) := by
      unfold landP
      rw [if_neg (by omega), if_neg (by show ¬ _ ≤ 8 * (32 * 1 + 63) + 5; omega), if_pos (by show _ ≤ 8 * (32 * 1 + 63) + 6; omega)]
      rfl
    have eB : landP m c (8 * 95 + 6 + 1) 1 = iprop(readerAt ES (c, 1) 2 ∗ released ES (c, 1) 2) := by
      unfold landP
      rw [if_neg (by omega), if_neg (by show ¬ _ ≤ 8 * (32 * 1 + 63) + 5; omega), if_neg (by show ¬ _ ≤ 8 * (32 * 1 + 63) + 6; omega),
        if_pos (by show _ ≤ 8 * (32 * (1 + 2) + 63) + 5; omega)]
    have eC : giveP (F := F) c (8 * 95 + 6) 1 = dutyTok ER (credC (peer c)) 0 true := by
      unfold giveP; rw [if_pos (by show _ ≤ 8 * (32 * 1 + 63) + 6; omega)]; rfl
    have eD : giveP (F := F) c (8 * 95 + 6 + 1) 1 = iprop(emp) := by
      unfold giveP; rw [if_neg (by show ¬ _ ≤ 8 * (32 * 1 + 63) + 6; omega)]
    have eO : owedT c (8 * 95 + 6) = owedT c (8 * 95 + 6 + 1) + tallyAt (credC (peer c)) 1 1 := owedT_cred c 1
    have eE : landP m c (8 * 95 + 6 + 1) 0 = iprop(readerAt ES (c, 0) 2 ∗ released ES (c, 0) 2) := by
      unfold landP
      rw [if_neg (by omega), if_neg (by show ¬ _ ≤ 8 * (32 * 0 + 63) + 5; omega), if_neg (by show ¬ _ ≤ 8 * (32 * 0 + 63) + 6; omega),
        if_pos (by show _ ≤ 8 * (32 * (0 + 2) + 63) + 5; omega)]
    simp only [semSignalWord, Prog.lift, Prog.bind_op, Prog.bind_ret, Prog.pure_eq_ret, dev3_eq c]
    rw [bigSep_univ_two (landP m c (8 * 95 + 6)), bigSep_univ_two (landP m c (8 * 95 + 6 + 1)), bigSep_univ_two (giveP c (8 * 95 + 6)),
      bigSep_univ_two (giveP c (8 * 95 + 6 + 1)), landP_succ m c (8 * 95 + 6) 0 (by omega) (by show _ ≠ 8 * (32 * 0 + 63) + 5; omega) (by show _ ≠ 8 * (32 * 0 + 63) + 6; omega) (by show _ ≠ 8 * (32 * (0 + 2) + 63) + 5; omega),
      giveP_succ c (8 * 95 + 6) 0 (by show _ ≠ 8 * (32 * 0 + 63) + 6; omega), eA, eB, eC, eD, eE]
    unfold oweP rsv
    iintro ⟨#HF, ⟨⟨Hbar, Hse, Hre, Hlo, ⟨⟨Hr0, #HR0⟩, ⟨⟨%f, -, Hs⟩, Hr⟩⟩, ⟨Hgi, Htok⟩, Hta, Hou⟩, ⟨%W, HO⟩⟩, Hk⟩
    ihave #Hi := (facts_slot m K Ks (c, 1)) $$ HF
    ihave #⟨Hip, Hrp⟩ := (facts_cred m K Ks (peer c)) $$ HF
    unfold slotF
    imod (slot_release ES (Set.mem_univ (Ks (c, 1))) (slot_excl c 1 (by decide)) 1) $$ [Hs Hr] with ⟨Hr, #HR⟩
    · isplitr; · iexact Hi
      isplitl [Hr]; · iexact Hr
      unfold rsAny
      iexists f
      iexact Hs
    iapply (Rounds.wp_signal 𝒱₀ ER (Rd m) (c : Thread nD τ) none (dst := (peer c : Thread nD τ)) (κ := K (peer c, 9))
      (d := true) (by rw [duties_cred]; exact Finset.mem_univ _) ((amount_reg m (peer c) credS 0 true).trans (by decide)) 1
      (owedT c (8 * 95 + 6 + 1)) eO) $$ [HO Htok]
    · isplitr; · iexact Hip
      isplitl [HO]; · iexact HO
      isplitl [Htok]; · iexact Htok
      isplitr
      · rw [payload_cred]; unfold credPay; rw [peer_peer]
        isplitr; · iexact HR0
        rw [if_pos rfl]; iexact HR
      iexact Hrp
    iintro HO
    rw [wp_ret]; imodintro
    iapply Hk
    isplitr [HO]
    · isplitl [Hbar]; · iexact Hbar
      isplitl [Hse]; · iexact Hse
      isplitl [Hre]; · iexact Hre
      isplitl [Hlo]; · iexact Hlo
      isplitl [Hr Hr0]
      · isplitl [Hr0]
        · isplitl [Hr0]; · iexact Hr0
          iexact HR0
        isplitl [Hr]; · iexact Hr
        iexact HR
      isplitl [Hgi]
      · isplitl [Hgi]; · iexact Hgi
        iempintro
      isplitl [Hta]; · iexact Hta
      iexact Hou
    · iexists W; iexact HO

theorem cond8_iff : ∀ i : grid0.Coords,
    (Scalar.cmpi .ne (Scalar.extui (Scalar.andi (Scalar.cmpi .eq (BitVec.ofNat 32 (i 0).val) 4#32) (Scalar.cmpi .eq (BitVec.ofNat 32 (i 1).val) 31#32)) : BitVec 32) 0#32 = 1#1)
      ↔ ((i 0).val = 4 ∧ (i 1).val = 31) := by decide +kernel

theorem logP_last (s : Fin 2) : logP m c 1279 s = lsv m c fullShare.right (s.val + 2) s.val 32 := by
  have hs := s.isLt
  unfold logP
  rw [if_neg (by unfold tSend; omega), if_neg (by unfold tSw; rw [if_pos hs]; omega), if_neg (by unfold tSend; omega),
    if_pos (by unfold tSw; rw [if_neg (by omega)])]

theorem logP_end (s : Fin 2) : logP m c 1280 s = lsv m c fullShare (s.val + 2) s.val 0 := by
  have hs := s.isLt
  unfold logP
  rw [if_neg (by unfold tSend; omega), if_neg (by unfold tSw; rw [if_pos hs]; omega), if_neg (by unfold tSend; omega),
    if_neg (by unfold tSw; rw [if_neg (by omega)]; omega)]

set_option maxHeartbeats 1600000 in
/-- The last two transfers' reads are taken back at the last point. -/
theorem stage7 (h0 : (i 0).val = n / 32) (h1 : (i 1).val = n % 32) (hn : n < 160)
    (v : BitVec 1) (hv : v = 1#1 ↔ ((i 0).val = 4 ∧ (i 1).val = 31)) (Kt : PUnit → sProp 𝕄) :
    stagePre m K Ks c (8 * n + 7) (Kt ⟨⟩) ⊢ wp frame (wpE (defs₀ (F := F)) 𝒱₀ (c : Thread nD τ) none) Set.univ
      (if k0_h8 : v = 1#1 then (do
        Prog.lift (.waitDma2 (((cc0_scratch4 : DmaSems sig S4).slice (Rect.unit (s := S4) ![2] S1.size inb_S4_S1_2)).squeeze S_ squeezes_S1_S_).sem
          (slotR ![0, 0, 0] inb_S2x512x8192_S1x512x8192_0_0_0) (slotL ![0, 0, 0] inb_S2x512x8192_S1x512x8192_0_0_0)
          (((Memref.isWhole_whole cc0_scratch1).wordExact_slice rfl _ wordsbf16_S2x512x8192_S1x512x8192_0_0_0).reshape _ _)
          (((Memref.isWhole_whole cc0_scratch0).wordExact_slice rfl _ wordsbf16_S2x512x8192_S1x512x8192_0_0_0).reshape _ _))
        Prog.lift (.waitDma2 (((cc0_scratch4 : DmaSems sig S4).slice (Rect.unit (s := S4) ![3] S1.size inb_S4_S1_3)).squeeze S_ squeezes_S1_S_).sem
          (slotR ![1, 0, 0] inb_S2x512x8192_S1x512x8192_1_0_0) (slotL ![1, 0, 0] inb_S2x512x8192_S1x512x8192_1_0_0)
          (((Memref.isWhole_whole cc0_scratch1).wordExact_slice rfl _ wordsbf16_S2x512x8192_S1x512x8192_1_0_0).reshape _ _)
          (((Memref.isWhole_whole cc0_scratch0).wordExact_slice rfl _ wordsbf16_S2x512x8192_S1x512x8192_1_0_0).reshape _ _))
        pure ⟨⟩) else (do pure ⟨⟩)) Kt := by
  unfold stagePre
  by_cases hc : v = 1#1
  swap
  · rw [dif_neg hc]
    have hne : ¬ n = 159 := fun h => hc (hv.mpr (by omega))
    rw [← St_succ m c (8 * n + 7) (by omega) (by omega) (by omega) (by omega) (by omega) (by omega) (by omega) (by omega)]
    rw [Prog.pure_eq_ret, wp_ret]
    iintro ⟨-, HS, Hk⟩
    imodintro
    iapply Hk; iexact HS
  rw [dif_pos hc]
  have h2 := hv.mp hc
  obtain rfl : n = 159 := by omega
  simp only [Prog.lift, Prog.bind_op, Prog.bind_ret, Prog.pure_eq_ret]
  rw [show 8 * 159 + 7 = 1279 from rfl, show 1279 + 1 = 1280 from rfl]
  unfold St
  rw [show barP (F := F) c 1280 = barP c 1279 from (barP_succ c 1279 (by omega)).symm, show bigSep Finset.univ (recvP (F := F) c 1280) = _ from (recvs_succ c 1279 (by omega)).symm,
    show bigSep Finset.univ (landP m c 1280) = _ from (lands_succ m c 1279 (by omega) (by omega) (by omega)).symm,
    show bigSep Finset.univ (giveP (F := F) c 1280) = _ from (gives_succ c 1279 (by omega)).symm,
    show takeP (F := F) c 1280 = _ from (takeP_succ c 1279 (by omega) (by omega)).symm,
    show outP m c 1280 = _ from (outP_succ m c 1279 (by omega)).symm,
    show oweP (F := F) c 1280 = _ from (oweP_succ c 1279 (by omega) (by omega) (by omega)).symm]
  have eS : ∀ T, bigSep Finset.univ (sendP (F := F) c T) = iprop(sendP c T 0 ∗ sendP c T 1 ∗ sendP c T 2 ∗ sendP c T 3) := fun T =>
    bigSep_univ_eq_bigSepL [0, 1, 2, 3] (by decide) (by decide) _
  rw [eS, eS, bigSep_univ_two (logP m c 1279), bigSep_univ_two (logP m c 1280)]
  rw [sendP_end c 1279 0 (by show 8 * (32 * 0 + 31) + 4 < _; omega) (by decide),
    sendP_end c 1279 1 (by show 8 * (32 * 1 + 31) + 4 < _; omega) (by decide),
    sendP_mid c 1279 2 (by show 8 * (32 * 2 + 31) + 4 < _; omega) (by decide),
    sendP_mid c 1279 3 (by show 8 * (32 * 3 + 31) + 4 < _; omega) (by decide),
    sendP_end c 1280 0 (by show 8 * (32 * 0 + 31) + 4 < _; omega) (by decide),
    sendP_end c 1280 1 (by show 8 * (32 * 1 + 31) + 4 < _; omega) (by decide),
    sendP_end c 1280 2 (by show 8 * (32 * 2 + 31) + 4 < _; omega) (by decide),
    sendP_end c 1280 3 (by show 8 * (32 * 3 + 31) + 4 < _; omega) (by decide),
    logP_last m c 0, logP_last m c 1, logP_end m c 0, logP_end m c 1,
    sendS_eq ![2] inb_S4_S1_2 2 rfl, sendS_eq ![3] inb_S4_S1_3 3 rfl]
  iintro ⟨#HF, ⟨⟨Hbar, ⟨Hs0, Hs1, Hs2, Hs3⟩, Hre, ⟨Hl0, Hl1⟩, Hla, Hgi, Hta, Hou⟩, HO⟩, Hk⟩
  iapply (wait_send m K Ks c 2 1279 _ _) $$ [Hs2 HO]
  · isplitr; · iexact HF
    isplitl [Hs2]; · iexact Hs2
    iexact HO
  iintro ⟨Hs2, Hg0, HO⟩
  iapply (wait_send m K Ks c 3 1279 _ _) $$ [Hs3 HO]
  · isplitr; · iexact HF
    isplitl [Hs3]; · iexact Hs3
    iexact HO
  iintro ⟨Hs3, Hg1, HO⟩
  rw [wp_ret]; imodintro
  iapply Hk
  isplitr [HO]
  · isplitl [Hbar]; · iexact Hbar
    isplitl [Hs0 Hs1 Hs2 Hs3]
    · isplitl [Hs0]; · iexact Hs0
      isplitl [Hs1]; · iexact Hs1
      isplitl [Hs2]; · iexact Hs2
      iexact Hs3
    isplitl [Hre]; · iexact Hre
    isplitl [Hl0 Hl1 Hg0 Hg1]
    · isplitl [Hl0 Hg0]
      · iapply (lsv_join m c 2 0 32 2 32 2)
        isplitl [Hg0]; · iexact Hg0
        iexact Hl0
      · iapply (lsv_join m c 3 1 32 3 32 3)
        isplitl [Hg1]; · iexact Hg1
        iexact Hl1
    isplitl [Hla]; · iexact Hla
    isplitl [Hgi]; · iexact Hgi
    isplitl [Hta]; · iexact Hta
    iexact Hou
  · iexact HO

end Stage

end Cert.Exchange

end
-- ==== Proof.Front.lean ====
/-
# `Front`: one grid point of one device, up to the send
-/
module

public import proofs.«01_k».proof.Proof.Stages5

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

theorem off4_eq : ∀ i : grid0.Coords, k0_off4 i = ![(i 0).val] := by decide +kernel

variable (m : (ℓ : Loc nD τ sig) → Buf (Elt F) ℓ)

section Body
variable (K : Dev nD × Fin 10 → ℕ) (Ks : Slot → ℕ) (c : Dev nD) (i : grid0.Coords) (n : ℕ)

theorem skip2 (T : ℕ) (h : T % 8 = 3 ∨ T % 8 = 5) (hl : T < 1280) (h3 : T % 8 = 3 → ¬ (T / 8 % 32 = 31 ∧ T / 256 < 4)) (h5 : T % 8 = 5 → ¬ (T / 8 % 32 = 31 ∧ 1 ≤ T / 256)) :
    iprop(St m c T ∗ oweP c T) = iprop(St m c (T + 2) ∗ oweP c (T + 2)) := by
  rw [St_succ m c T (by omega) (by omega) (by omega) (by omega) (by omega) (by omega) (by omega) (by omega)]
  exact St_succ m c (T + 1) (by omega) (by omega) (by omega) (by omega) (by omega) (by omega) (by omega) (by omega)

omit m in
/-- A guarded step with the rest of the program inside both of its branches. -/
theorem seq_at {α : Type} {p : Prop} [Decidable p] {P : sProp 𝕄} {A : p → Prog (TpuEff nD τ sig (Elt F) Λ₀ .tc) PUnit}
    {A' : p → Prog (TpuEff nD τ sig (Elt F) Λ₀ .tc) α} {T : Prog (TpuEff nD τ sig (Elt F) Λ₀ .tc) α} {Q : α → sProp 𝕄}
    (hs : P ⊢ wp frame (wpE (defs₀ (F := F)) 𝒱₀ (c : Thread nD τ) none) Set.univ (dite p A (fun _ => pure ⟨⟩)) (fun _ => wp frame (wpE (defs₀ (F := F)) 𝒱₀ (c : Thread nD τ) none) Set.univ T Q)) (hA : ∀ h, (A h >>= fun _ => T) = A' h) :
    P ⊢ wp frame (wpE (defs₀ (F := F)) 𝒱₀ (c : Thread nD τ) none) Set.univ (dite p A' (fun _ => T)) Q := by
  have e : dite p A' (fun _ => T) = (dite p A (fun _ => pure ⟨⟩) >>= fun _ => T) := by
    by_cases h : p
    · rw [dif_pos h, dif_pos h, hA]
    · rw [dif_neg h, dif_neg h]; rfl
  rw [e, wp_bind]
  exact hs

omit m in
/-- One effect, with a last result after it. -/
theorem op_at {α : Type} {P : sProp 𝕄} {e : TpuEff nD τ sig (Elt F) Λ₀ .tc PUnit} {x : α} {Q : α → sProp 𝕄}
    (hs : P ⊢ wp frame (wpE (defs₀ (F := F)) 𝒱₀ (c : Thread nD τ) none) Set.univ (.op e fun _ => (.ret ⟨⟩ : Prog (TpuEff nD τ sig (Elt F) Λ₀ .tc) PUnit)) (fun _ => wp frame (wpE (defs₀ (F := F)) 𝒱₀ (c : Thread nD τ) none) Set.univ (.ret x) Q)) :
    P ⊢ wp frame (wpE (defs₀ (F := F)) 𝒱₀ (c : Thread nD τ) none) Set.univ (.op e fun _ => .ret x) Q := by
  have hb : (Prog.op e fun _ => .ret x) = ((Prog.op e fun _ => (.ret ⟨⟩ : Prog (TpuEff nD τ sig (Elt F) Λ₀ .tc) PUnit)) >>= fun _ => .ret x) := rfl
  rw [hb, wp_bind]
  exact hs

/-- Stage 0, followed by the rest of the point. -/
theorem chain0 {α : Type} (h0 : (i 0).val = n / 32) (h1 : (i 1).val = n % 32) (hn : n < 160) (T : Prog (TpuEff nD τ sig (Elt F) Λ₀ .tc) α) (Q : α → sProp 𝕄) :
    stagePre m K Ks c (8 * n) (wp frame (wpE (defs₀ (F := F)) 𝒱₀ (c : Thread nD τ) none) Set.univ T Q) ⊢ wp frame (wpE (defs₀ (F := F)) 𝒱₀ (c : Thread nD τ) none) Set.univ
      (if k0_h1 : k0_cond1 i = 1#1 then (do
        semSignalWord (⟨k0_dev1 c, k0_dev1_lt i c k0_h1⟩ : Dev nD) barS 1#32
        semWaitWord barS 1#32
        T) else T) Q :=
  seq_at c (stage0 m K Ks c i n h0 h1 hn (fun _ => wp frame (wpE (defs₀ (F := F)) 𝒱₀ (c : Thread nD τ) none) Set.univ T Q)) (fun _ => by simp only [Prog.lift, Prog.bind_op, Prog.bind_ret, Prog.pure_eq_ret, semSignalWord, semWaitWord, Prog.bind_assoc])

/-- Stage 1, followed by the rest of the point. -/
theorem chain1 {α : Type} (h0 : (i 0).val = n / 32) (h1 : (i 1).val = n % 32) (hn : n < 160) (T : Prog (TpuEff nD τ sig (Elt F) Λ₀ .tc) α) (Q : α → sProp 𝕄) :
    stagePre m K Ks c (8 * n + 1) (wp frame (wpE (defs₀ (F := F)) 𝒱₀ (c : Thread nD τ) none) Set.univ T Q) ⊢ wp frame (wpE (defs₀ (F := F)) 𝒱₀ (c : Thread nD τ) none) Set.univ
      (if k0_h2 : k0_cond2 i = 1#1 then (do
        Prog.lift (.waitDma2 (((cc0_scratch4 : DmaSems sig S4).slice (Rect.unit (s := S4) (k0_off1 i) S1.size (k0_off1_inb i k0_h2))).squeeze S_ squeezes_S1_S_).sem
          (slotR (k0_off2 i) (k0_off2_inb i k0_h2)) (slotL (k0_off2 i) (k0_off2_inb i k0_h2))
          (((Memref.isWhole_whole cc0_scratch1).wordExact_slice rfl _ (k0_off2_wordsbf16 i k0_h2)).reshape _ _)
          (((Memref.isWhole_whole cc0_scratch0).wordExact_slice rfl _ (k0_off2_wordsbf16 i k0_h2)).reshape _ _))
        T) else T) Q :=
  seq_at c (stage1 m K Ks c i n h0 h1 hn (fun _ => wp frame (wpE (defs₀ (F := F)) 𝒱₀ (c : Thread nD τ) none) Set.univ T Q)) (fun _ => by simp only [Prog.lift, Prog.bind_op, Prog.bind_ret, Prog.pure_eq_ret, semSignalWord, semWaitWord, Prog.bind_assoc])

/-- Stage 6, followed by the rest of the point. -/
theorem chain6 {α : Type} (hc : k0_cond6 i = 1#1) (h0 : (i 0).val = n / 32) (h1 : (i 1).val = n % 32) (hn : n < 160) (T : Prog (TpuEff nD τ sig (Elt F) Λ₀ .tc) α) (Q : α → sProp 𝕄) :
    stagePre m K Ks c (8 * n + 6) (wp frame (wpE (defs₀ (F := F)) 𝒱₀ (c : Thread nD τ) none) Set.univ T Q) ⊢ wp frame (wpE (defs₀ (F := F)) 𝒱₀ (c : Thread nD τ) none) Set.univ
      (if k0_h7 : k0_cond7 i = 1#1 then (do
        semSignalWord (⟨k0_dev3 c, k0_dev3_lt i c hc k0_h7⟩ : Dev nD) credS 1#32
        T) else T) Q :=
  seq_at c (stage6 m K Ks c i n hc h0 h1 hn (fun _ => wp frame (wpE (defs₀ (F := F)) 𝒱₀ (c : Thread nD τ) none) Set.univ T Q)) (fun _ => by simp only [Prog.lift, Prog.bind_op, Prog.bind_ret, Prog.pure_eq_ret, semSignalWord, semWaitWord, Prog.bind_assoc])

/-- Stage 2, followed by the rest of the point. -/
theorem chain2 {α : Type} (h0 : (i 0).val = n / 32) (h1 : (i 1).val = n % 32) (hn : n < 160)
    (arg2 : Memref sig .tc .vmem S512x4096 .bf16) (arg3 : Memref sig .tc .vmem S4096x256 .bf16)
    (X : S512x4096.Idx → Elt F .bf16) (Y : S4096x256.Idx → Elt F .bf16) (hXY : k0_pay36 X Y = payT m c (pt n)) (T : Prog (TpuEff nD τ sig (Elt F) Λ₀ .tc) α) (Q : α → sProp 𝕄) :
    iprop((owns (c : Thread nD τ) arg2 fullShare X ∗ owns (c : Thread nD τ) arg3 fullShare Y)
        ∗ stagePre m K Ks c (8 * n + 2) iprop((owns (c : Thread nD τ) arg2 fullShare X ∗ owns (c : Thread nD τ) arg3 fullShare Y) -∗ wp frame (wpE (defs₀ (F := F)) 𝒱₀ (c : Thread nD τ) none) Set.univ T Q))
      ⊢ wp frame (wpE (defs₀ (F := F)) 𝒱₀ (c : Thread nD τ) none) Set.univ
      (if k0_h3 : k0_cond3 i = 1#1 then (do
        let v41 : Vec F S512x4096 .bf16 ← Prog.lift (.load arg2 (Rect.unit (s := S512x4096) ![0, 0] S512x4096.size inb_S512x4096_S512x4096_0_0).toLoadRect (View.loadsAt_vmem h_S512x4096))
        let v43 : Vec F S4096x256 .bf16 ← Prog.lift (.load arg3 (Rect.unit (s := S4096x256) ![0, 0] S4096x256.size inb_S4096x256_S4096x256_0_0).toLoadRect (View.loadsAt_vmem h_S4096x256))
        let _v60 : Vec F S1x512x256 .bf16 ← Prog.lift (.load (Memref.whole cc0_scratch0) (Rect.unit (s := S2x512x8192) (k0_off3 i) S1x512x256.size (k0_off3_inb i k0_h3)).toLoadRect (View.loadsAt_vmem h_S1x512x256))
        Prog.lift (.store (Memref.whole cc0_scratch0) (Rect.unit (s := S2x512x8192) (k0_off3 i) S1x512x256.size (k0_off3_inb i k0_h3)) (k0_pay36 v41 v43) Finset.univ (View.stores_vmem h_S1x512x256 ((Memref.isWhole_whole cc0_scratch0).storeExact_slice rfl _ (k0_off3_packedbf16 i k0_h3)) (fun _ => rfl)) (.inl rfl))
        T) else T) Q :=
  seq_at c (stage2 m K Ks c i n h0 h1 hn arg2 arg3 X Y hXY (fun _ => wp frame (wpE (defs₀ (F := F)) 𝒱₀ (c : Thread nD τ) none) Set.univ T Q)) (fun _ => by simp only [Prog.lift, Prog.bind_op, Prog.bind_ret, Prog.pure_eq_ret, Prog.bind_assoc])

set_option maxHeartbeats 3200000 in
/-- Up to the send. -/
theorem front (h0 : (i 0).val = n / 32) (h1 : (i 1).val = n % 32) (hn : n < 160)
    (arg2 : Memref sig .tc .vmem S512x4096 .bf16) (harg2 : arg2.IsWhole) (arg3 : Memref sig .tc .vmem S4096x256 .bf16) (harg3 : arg3.IsWhole)
    (X : S512x4096.Idx → Elt F .bf16) (Y : S4096x256.Idx → Elt F .bf16) (hXY : k0_pay36 X Y = payT m c (pt n)) (Q) :
    iprop(Facts m K Ks ∗ (St m c (8 * n) ∗ oweP c (8 * n)) ∗ (owns (c : Thread nD τ) arg2 fullShare X ∗ owns (c : Thread nD τ) arg3 fullShare Y)
        ∗ (((St m c (8 * n + 5) ∗ oweP c (8 * n + 5)) ∗ (owns (c : Thread nD τ) arg2 fullShare X ∗ owns (c : Thread nD τ) arg3 fullShare Y))
          -∗ ∀ (v2 v5 v8 v9 : BitVec 32) (v31 : BitVec 1), Q ⟨BitVec.ofNat 32 (i 0).val, BitVec.ofNat 32 (i 1).val, c, v2, v5, v8, v9, v31, 1#32⟩))
      ⊢ wp frame (wpE (defs₀ (F := F)) 𝒱₀ (c : Thread nD τ) none) Set.univ (k0_part12 i arg2 harg2 arg3 harg3 (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q := by
  rw [k0_part12_eq_skeleton]
  unfold k0_part12_skel
  rw [wp_bind]
  unfold Prog.lift
  rw [wp_deviceId, wp_ret]
  iintro ⟨#HF, HS, HW, Hk⟩
  imodintro
  iapply (chain0 m K Ks c i n h0 h1 hn _ _)
  unfold stagePre
  isplitr; · iexact HF
  isplitl [HS]; · iexact HS
  iintro HS
  iapply (chain1 m K Ks c i n h0 h1 hn _ _)
  unfold stagePre
  isplitr; · iexact HF
  isplitl [HS]; · iexact HS
  iintro HS
  iapply (chain2 m K Ks c i n h0 h1 hn arg2 arg3 X Y hXY _ _)
  isplitl [HW]; · iexact HW
  unfold stagePre
  isplitr; · iexact HF
  isplitl [HS]; · iexact HS
  iintro HS HW
  by_cases h4 : k0_cond4 i = 1#1
  · rw [dif_pos h4, k0_part1_eq_skeleton]
    unfold k0_part1_skel
    simp only [Prog.lift, Prog.bind_op, Prog.bind_ret, Prog.pure_eq_ret, wp_bind]
    iapply (stage3 m K Ks c i n h4 h0 h1 hn _ (cond5_iff i) _)
    unfold stagePre
    isplitr; · iexact HF
    isplitl [HS]; · iexact HS
    iintro HS
    iapply (op_at c (stage4 m K Ks c i n h4 h0 h1 hn _ (dev2_eq c _) _ _ _ (off4_eq i) _ _ (off5_eq i) _))
    unfold stagePre
    isplitr; · iexact HF
    isplitl [HS]; · iexact HS
    iintro HS
    rw [wp_ret]; imodintro
    ispecialize Hk $$ [HS HW]
    · isplitl [HS]; · iexact HS
      iexact HW
    iapply Hk
  · rw [dif_neg h4]
    have hne : ¬ (n % 32 = 31 ∧ n / 32 < 4) := fun h => h4 ((cond4_iff i).mpr (by omega))
    ihave HS := (Entails.of_eq (skip2 m c (8 * n + 3) (by omega) (by omega) (by omega) (by omega))) $$ HS
    dsimp only
    rw [Prog.pure_eq_ret, wp_ret]; imodintro
    ispecialize Hk $$ [HS HW]
    · isplitl [HS]; · iexact HS
      iexact HW
    iapply Hk

end Body

end Cert.Exchange

end
-- ==== Proof.Body.lean ====
/-
# `Body`: one grid point of one device
-/
module

public import proofs.«01_k».proof.Proof.Front

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Body
variable (K : Dev nD × Fin 10 → ℕ) (Ks : Slot → ℕ) (c : Dev nD) (i : grid0.Coords) (n : ℕ)

set_option maxHeartbeats 3200000 in
/-- One grid point. -/
theorem sound_body (h0 : (i 0).val = n / 32) (h1 : (i 1).val = n % 32) (hn : n < 160)
    (arg2 : Memref sig .tc .vmem S512x4096 .bf16) (harg2 : arg2.IsWhole) (arg3 : Memref sig .tc .vmem S4096x256 .bf16) (harg3 : arg3.IsWhole)
    (X : S512x4096.Idx → Elt F .bf16) (Y : S4096x256.Idx → Elt F .bf16) (hXY : k0_pay36 X Y = payT m c (pt n)) (Kt : PUnit → sProp 𝕄) :
    iprop(Facts m K Ks ∗ (St m c (8 * n) ∗ oweP c (8 * n)) ∗ (owns (c : Thread nD τ) arg2 fullShare X ∗ owns (c : Thread nD τ) arg3 fullShare Y)
        ∗ (((St m c (8 * n + 8) ∗ oweP c (8 * n + 8)) ∗ (owns (c : Thread nD τ) arg2 fullShare X ∗ owns (c : Thread nD τ) arg3 fullShare Y)) -∗ Kt ⟨⟩))
      ⊢ wp frame (wpE (defs₀ (F := F)) 𝒱₀ (c : Thread nD τ) none) Set.univ (cc0_body i arg2 harg2 arg3 harg3 (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  rw [cc0_body_eq_skeleton]
  unfold cc0_body_skel
  rw [wp_bind]
  iintro ⟨#HF, HS, HW, Hk⟩
  iapply (front m K Ks c i n h0 h1 hn arg2 harg2 arg3 harg3 X Y hXY _)
  isplitr; · iexact HF
  isplitl [HS]; · iexact HS
  isplitl [HW]; · iexact HW
  iintro ⟨HS, HW⟩ %v2 %v5 %v8 %v9 %v31
  dsimp only
  by_cases h6 : k0_cond6 i = 1#1
  · rw [dif_pos h6]
    iapply (stage5 m K Ks c i n h6 h0 h1 hn arg2 harg2 arg3 harg3 _ _ _ _ _ _ _)
    unfold stagePre
    isplitr; · iexact HF
    isplitl [HS]; · iexact HS
    iintro HS
    iapply (chain6 m K Ks c i n h6 h0 h1 hn _ _)
    unfold stagePre
    isplitr; · iexact HF
    isplitl [HS]; · iexact HS
    iintro HS
    iapply (stage7 m K Ks c i n h0 h1 hn _ (cond8_iff i) _)
    unfold stagePre
    isplitr; · iexact HF
    isplitl [HS]; · iexact HS
    iintro HS
    iapply Hk
    isplitl [HS]; · iexact HS
    iexact HW
  · rw [dif_neg h6]
    have hne : ¬ (n % 32 = 31 ∧ 1 ≤ n / 32) := fun h => h6 ((cond6_iff i).mpr (by omega))
    ihave HS := (Entails.of_eq (skip2 m c (8 * n + 5) (by omega) (by omega) (by omega) (by omega))) $$ HS
    iapply (stage7 m K Ks c i n h0 h1 hn _ (cond8_iff i) _)
    unfold stagePre
    isplitr; · iexact HF
    isplitl [HS]; · iexact HS
    iintro HS
    iapply Hk
    isplitl [HS]; · iexact HS
    iexact HW

end Body

end Cert.Exchange

end
-- ==== Proof.Close.lean ====
/-
# `Close`: the end of the kernel, the proof data of the pipeline, one point's obligation
-/
module

public import proofs.«01_k».proof.Proof.Body

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What is held when the kernel ends -/

section Close
variable (K : Dev nD × Fin 10 → ℕ) (Ks : Slot → ℕ) (c : Dev nD)

/-- A whole buffer, its two slots at any contents. -/
def scrAny (b : Ref sig .tc) : sProp 𝕄 := iprop(∃ f : Buf (Elt F) ((c : Thread nD τ).loc b), ((c : Thread nD τ).loc b) ↦{fullShare} f)

/-- At the end every counter is zero and the result is written. -/
def Fin' : sProp 𝕄 :=
  iprop((semVal (barC c) 0 ∗ semVal (credC c) 0 ∗ (bigSep Finset.univ fun k : Fin 4 => semVal (sendC c k) 0)
      ∗ (bigSep Finset.univ fun k : Fin 4 => semVal (recvC c k) 0)
      ∗ semVal ((c : Thread nD τ), .dma (outS 0)) 0 ∗ semVal ((c : Thread nD τ), .dma (outS 1)) 0)
    ∗ (locO c ↦{fullShare} (OutF m c : Buf (Elt F) (locO c)))
    ∗ scrAny (F := F) c cc0_scratch0 ∗ scrAny (F := F) c cc0_scratch1 ∗ scrAny (F := F) c cc0_scratch2 ∗ scrAny (F := F) c cc0_scratch3)

omit m [FloatOps F] in
theorem slots_cover : (Finset.univ : Finset S2x512x8192.Idx) = slotSet 0 ∪ slotSet 1 := by
  ext j
  have h : (j 0).val < 2 := (j 0).isLt
  simp only [Finset.mem_univ, Finset.mem_union, mem_slotSet, true_iff]
  omega

omit m [FloatOps F] in
theorem slots_disjoint : Disjoint (slotSet 0) (slotSet 1) :=
  Finset.disjoint_left.mpr fun j h h' => by rw [mem_slotSet] at h h'; omega

omit m in
theorem join_log (f g : Buf (Elt F) (locL c)) : iprop((locL c ↦[slotSet 0]{fullShare} f) ∗ (locL c ↦[slotSet 1]{fullShare} g)) ⊢ scrAny (F := F) c cc0_scratch0 := by
  unfold scrAny
  refine (pointsTo_join (ℓ := locL c) slots_disjoint).trans ?_
  rw [← slots_cover]
  iintro H; iexists _; iexact H
omit m in
theorem join_land (f g : Buf (Elt F) (locR c)) : iprop((locR c ↦[slotSet 0]{fullShare} f) ∗ (locR c ↦[slotSet 1]{fullShare} g)) ⊢ scrAny (F := F) c cc0_scratch1 := by
  unfold scrAny
  refine (pointsTo_join (ℓ := locR c) slots_disjoint).trans ?_
  rw [← slots_cover]
  iintro H; iexists _; iexact H

omit m in
/-- A cell at its second round gives its counter back. -/
theorem close_one (g : GSem nD τ sig) (κ : ℕ) (m) : iprop(cellInv ER (Rd (F := F) m) κ g ∗ atPos ER g 1 ∅ 0) ⊢ |={Set.univ}=> semVal g 0 :=
  Rounds.cell_close ER (Rd m) (Set.mem_univ κ) (fun h => h) (R := 1) (duties_later m g)

theorem close_sends : iprop(Facts m K Ks ∗ bigSep Finset.univ fun k : Fin 4 => atPos ER (sendC c k) 1 ∅ 0)
    ⊢ |={Set.univ}=> bigSep Finset.univ fun k : Fin 4 => (semVal (sendC c k) 0 : sProp 𝕄) := by
  refine (sep_mono_left (BI.bigSep_of_persistent (Finset.univ : Finset (Fin 4)) (Facts m K Ks))).trans ?_
  rw [← bigSep_sep']
  refine (bigSep_mono fun k _ => ?_).trans (bigSep_fupd _ _)
  show iprop(Facts m K Ks ∗ atPos ER (sendC c k) 1 ∅ 0) ⊢ |={Set.univ}=> (semVal (sendC c k) 0 : sProp 𝕄)
  iintro ⟨#HF, H⟩
  ihave #HI := (facts_send m K Ks c k) $$ HF
  icases HI with ⟨HI, -⟩
  iapply (close_one (sendC c k) (K (c, jSend k)) m)
  isplitr; · iexact HI
  iexact H
theorem close_recvs : iprop(Facts m K Ks ∗ bigSep Finset.univ fun k : Fin 4 => atPos ER (recvC c k) 1 ∅ 0)
    ⊢ |={Set.univ}=> bigSep Finset.univ fun k : Fin 4 => (semVal (recvC c k) 0 : sProp 𝕄) := by
  refine (sep_mono_left (BI.bigSep_of_persistent (Finset.univ : Finset (Fin 4)) (Facts m K Ks))).trans ?_
  rw [← bigSep_sep']
  refine (bigSep_mono fun k _ => ?_).trans (bigSep_fupd _ _)
  show iprop(Facts m K Ks ∗ atPos ER (recvC c k) 1 ∅ 0) ⊢ |={Set.univ}=> (semVal (recvC c k) 0 : sProp 𝕄)
  iintro ⟨#HF, H⟩
  ihave #HI := (facts_recv m K Ks c k) $$ HF
  icases HI with ⟨HI, -⟩
  iapply (close_one (recvC c k) (K (c, jRecv k)) m)
  isplitr; · iexact HI
  iexact H

theorem logs_end : bigSep Finset.univ (logP m c 1280) ⊢ scrAny (F := F) c cc0_scratch0 := by
  have e : bigSep Finset.univ (logP m c 1280) = iprop(logP m c 1280 0 ∗ logP m c 1280 1) := bigSep_univ_eq_bigSepL [0, 1] (by decide) (by decide) _
  have e0 : logP m c 1280 0 = lsv m c fullShare (0 + 2) 0 0 := by
    unfold logP; rw [if_neg (by decide), if_neg (by decide), if_neg (by decide), if_neg (by decide)]; rfl
  have e1 : logP m c 1280 1 = lsv m c fullShare (1 + 2) 1 0 := by
    unfold logP; rw [if_neg (by decide), if_neg (by decide), if_neg (by decide), if_neg (by decide)]; rfl
  rw [e, e0, e1]
  unfold lsv
  iintro ⟨⟨%f, -, Hf⟩, ⟨%g, -, Hg⟩⟩
  iapply (join_log c f g)
  isplitl [Hf] <;> iassumption

theorem lands_end : bigSep Finset.univ (landP m c 1280) ⊢ scrAny (F := F) c cc0_scratch1 := by
  have e : bigSep Finset.univ (landP m c 1280) = iprop(landP m c 1280 0 ∗ landP m c 1280 1) := bigSep_univ_eq_bigSepL [0, 1] (by decide) (by decide) _
  have e0 : landP m c 1280 0 = iprop((readerAt ES (c, 0) 2 ∗ released ES (c, 0) 2) ∗ rsv m c (0 + 2) 0) := by
    unfold landP; rw [if_neg (by decide), if_neg (by decide), if_neg (by decide), if_neg (by decide)]; rfl
  have e1 : landP m c 1280 1 = iprop((readerAt ES (c, 1) 2 ∗ released ES (c, 1) 2) ∗ rsv m c (1 + 2) 1) := by
    unfold landP; rw [if_neg (by decide), if_neg (by decide), if_neg (by decide), if_neg (by decide)]; rfl
  rw [e, e0, e1]
  unfold rsv
  iintro ⟨⟨-, ⟨%f, -, Hf⟩⟩, ⟨-, ⟨%g, -, Hg⟩⟩⟩
  iapply (join_land c f g)
  isplitl [Hf] <;> iassumption

/-- Closing the cells at the end. -/
theorem finish : iprop(Facts m K Ks ∗ St m c 1280) ⊢ |={Set.univ}=> Fin' m c := by
  have eb : barP (F := F) c 1280 = iprop(atPos ER (barC c) 1 ∅ 0 ∗ barPay c) := by unfold barP; rw [if_neg (by omega)]
  have es : bigSep Finset.univ (sendP (F := F) c 1280) = bigSep Finset.univ fun k : Fin 4 => atPos ER (sendC c k) 1 ∅ 0 :=
    bigSep_congr fun k _ => by
      have hk := k.isLt
      unfold sendP; rw [if_neg (by unfold tSend; omega), if_neg (by unfold tSw; split <;> omega)]
  have er : bigSep Finset.univ (recvP (F := F) c 1280) = bigSep Finset.univ fun k : Fin 4 => atPos ER (recvC c k) 1 ∅ 0 :=
    bigSep_congr fun k _ => by
      have hk := k.isLt
      unfold recvP; rw [if_neg (by unfold tRecv; omega)]
  have et : takeP (F := F) c 1280 = iprop(atPos ER (credC c) 1 ∅ 0 ∗ released ES (peer c, 0) 2 ∗ released ES (peer c, 1) 2) := by
    unfold takeP; rw [if_neg (by decide), if_neg (by decide)]
  unfold St
  rw [eb, es, er, et]
  unfold outP
  iintro ⟨#HF, ⟨Hb, -⟩, Hs, Hr, Hl, Hd, -, ⟨Ht, -⟩, ⟨%f, %hf, Hf⟩, ⟨%a, Ha⟩, ⟨%b, Hbb⟩, H0, H1⟩
  have hfe : f = OutF m c := funext fun j => hf j (by
    have h : (j 0).val < 2048 := (j 0).isLt
    have e : 512 * cntOut 1280 = 2048 := by decide
    omega)
  subst hfe
  ihave #HB := (facts_bar m K Ks c) $$ HF
  icases HB with ⟨HB, -⟩
  ihave #HC := (facts_cred m K Ks c) $$ HF
  icases HC with ⟨HC, -⟩
  imod (close_one (barC c) (K (c, 0)) m) $$ [Hb] with Hb
  · isplitr; · iexact HB
    iexact Hb
  imod (close_one (credC c) (K (c, 9)) m) $$ [Ht] with Ht
  · isplitr; · iexact HC
    iexact Ht
  imod (close_sends m K Ks c) $$ [Hs] with Hs
  · isplitr; · iexact HF
    iexact Hs
  imod (close_recvs m K Ks c) $$ [Hr] with Hr
  · isplitr; · iexact HF
    iexact Hr
  ihave Hl := (logs_end m c) $$ Hl
  ihave Hd := (lands_end m c) $$ Hd
  imodintro
  unfold Fin'
  isplitl [Hb Ht Hs Hr H0 H1]
  · isplitl [Hb]; · iexact Hb
    isplitl [Ht]; · iexact Ht
    isplitl [Hs]; · iexact Hs
    isplitl [Hr]; · iexact Hr
    isplitl [H0]; · iexact H0
    iexact H1
  isplitl [Hf]; · iexact Hf
  isplitl [Hl]; · iexact Hl
  isplitl [Hd]; · iexact Hd
  unfold scrAny
  isplitl [Ha]
  · iexists a; iexact Ha
  iexists b; iexact Hbb

end Close

/-! ## The proof data and the body obligation -/

/-- What is held before point `n`. -/
def PhiT (c : Dev nD) (n : ℕ) : sProp 𝕄 :=
  if n < 160 then iprop(∃ (K : Dev nD × Fin 10 → ℕ) (Ks : Slot → ℕ), Facts m K Ks ∗ St m c (8 * n)) else Fin' m c

def dats (_ : Fin 1) (c : Dev nD) : Dat τ (Elt F) ℕ ℕ UU ℕ cfg0 c where
  A w := m ((cfg0.win w).arr.view.loc (c : Thread nD τ))
  after w t := match w with
    | ⟨0, _⟩ => iblk m c 0 t
    | ⟨1, _⟩ => iblk m c 1 t
  Φ t := PhiT m c t.val
  q _ := fullShare
  owed t := owedT c (8 * t.val)

theorem before_x (c : Dev nD) (t : Fin cfg0.N) (d) : (dats m 0 c).before 0 t d = iblk m c 0 t :=
  ((dats m 0 c).before_in_eq_fetched 0 rfl (fun _ => rfl) (fun _ _ _ => rfl) (fun t => rfl) t d).trans
    (by unfold Dat.fetched Dat.blockOf iblk; rfl)
theorem before_w (c : Dev nD) (t : Fin cfg0.N) (d) : (dats m 0 c).before 1 t d = iblk m c 1 t :=
  ((dats m 0 c).before_in_eq_fetched 1 rfl (fun _ => rfl) (fun _ _ _ => rfl) (fun t => rfl) t d).trans
    (by unfold Dat.fetched Dat.blockOf iblk; rfl)

theorem coords_val : ∀ t : Fin grid0.N, ((grid0.coords t) 0).val = t.val / 32 ∧ ((grid0.coords t) 1).val = t.val % 32 := by
  decide +kernel

theorem pt_val (t : Fin cfg0.N) : pt t.val = t := Fin.ext (Nat.mod_eq_of_lt (by have := t.isLt; show t.val < 160; exact lt_of_lt_of_eq this N_0))

/-- One point, between the invariants. -/
theorem point (c : Dev nD) (t : Fin cfg0.N) (Kt : PUnit → sProp 𝕄) :
    iprop(PhiT m c t.val ∗ oweP c (8 * t.val) ∗ (owns (c : Thread nD τ) (st0_0 t) fullShare (iblk m c 0 t) ∗ owns (c : Thread nD τ) (st0_1 t) fullShare (iblk m c 1 t))
        ∗ ((PhiT m c (t.val + 1) ∗ oweP c (8 * (t.val + 1)) ∗ (owns (c : Thread nD τ) (st0_0 t) fullShare (iblk m c 0 t) ∗ owns (c : Thread nD τ) (st0_1 t) fullShare (iblk m c 1 t)))
          -∗ Kt ⟨⟩))
      ⊢ wp frame (wpE (defs₀ (F := F)) 𝒱₀ (c : Thread nD τ) none) Set.univ (bodyAt0 t) Kt := by
  have hn : t.val < 160 := lt_of_lt_of_eq t.isLt N_0
  refine BIBase.Entails.trans ?_ (wp_fupd _ _ _ _ _)
  rw [show PhiT m c t.val = iprop(∃ (K : Dev nD × Fin 10 → ℕ) (Ks : Slot → ℕ), Facts m K Ks ∗ St m c (8 * t.val)) from if_pos hn]
  iintro ⟨⟨%K, %Ks, #HF, HS⟩, HO, HW, Hk⟩
  iapply (sound_body m K Ks c (grid0.coords t) t.val (coords_val t).1 (coords_val t).2 hn (st0_0 t) _ (st0_1 t) _ (iblk m c 0 t) (iblk m c 1 t)
    (by unfold payT; rw [pt_val]) _)
  isplitr; · iexact HF
  isplitl [HS HO]
  · isplitl [HS] <;> iassumption
  isplitl [HW]; · iexact HW
  iintro ⟨⟨HS, HO⟩, HW⟩
  by_cases hl : t.val + 1 < 160
  · imodintro
    iapply Hk
    rw [show PhiT m c (t.val + 1) = iprop(∃ (K : Dev nD × Fin 10 → ℕ) (Ks : Slot → ℕ), Facts m K Ks ∗ St m c (8 * (t.val + 1))) from if_pos hl]
    isplitl [HS]
    · iexists K; iexists Ks
      isplitr; · iexact HF
      iexact HS
    isplitl [HO]; · iexact HO
    iexact HW
  · have ht : t.val = 159 := by omega
    rw [show PhiT m c (t.val + 1) = Fin' m c from if_neg hl]
    have e : St m c (8 * t.val + 8) = St m c 1280 := by rw [ht]
    ihave HS := (Entails.of_eq e) $$ HS
    imod (finish m K Ks c) $$ [HS] with HS
    · isplitr; · iexact HF
      iexact HS
    imodintro
    iapply Hk
    isplitl [HS]; · iexact HS
    isplitl [HO]; · iexact HO
    iexact HW

theorem body_obligation (c : Dev nD) : BodyObligation (dats (F := F) m 0 c) (defs₀ (F := F)) 𝒱₀ 2 Set.univ := fun t => by
  rw [bigSep_W0, bigSep_W0]
  show iprop(PhiT m c t.val ∗ (dats m 0 c).owesAt 2 t.castSucc
      ∗ ((∃ d, owns (c : Thread nD τ) (st0_0 t) fullShare ((dats m 0 c).before 0 t d)) ∗ ∃ d, owns (c : Thread nD τ) (st0_1 t) fullShare ((dats m 0 c).before 1 t d)))
    ⊢ wp frame (wpE (defs₀ (F := F)) 𝒱₀ (c : Thread nD τ) none) Set.univ (bodyAt0 t) (fun _ =>
      iprop(PhiT m c (t.val + 1) ∗ (dats m 0 c).owesAt 2 t.succ
        ∗ (owns (c : Thread nD τ) (st0_0 t) fullShare (iblk m c 0 t) ∗ owns (c : Thread nD τ) (st0_1 t) fullShare (iblk m c 1 t))))
  unfold Dat.owesAt Pipeline.owesWithin
  rw [show (dats m 0 c).owed t.castSucc = owedT c (8 * t.val) from rfl, show (dats m 0 c).owed t.succ = owedT c (8 * (t.val + 1)) from rfl]
  simp only [before_x, before_w]
  iintro ⟨HP, ⟨%W, %hW, HO⟩, ⟨%d0, H0⟩, ⟨%d1, H1⟩⟩
  iapply (point m c t _)
  unfold oweP
  isplitl [HP]; · iexact HP
  isplitl [HO]; · iexists W; iexact HO
  isplitl [H0 H1]
  · isplitl [H0] <;> iassumption
  iintro ⟨HP, ⟨%W', HO⟩, HW⟩
  isplitl [HP]; · iexact HP
  isplitl [HO]
  · iexists W'
    isplitr; · ipureintro; exact fun _ _ => Or.inl trivial
    iexact HO
  iexact HW

end Cert.Exchange

end
-- ==== Proof.Ghost.lean ====
/-
# `Ghost`: the tokens of the launch, dealt over the devices, and the cells opened
-/
module

public import proofs.«01_k».proof.Proof.Close

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Counters and tokens -/

/-- The kernel's own counters: ten of the transfers, the credit's. -/
def osem (j : Fin 11) : SemLoc sig :=
  if h : j.val < 10 then .dma ⟨4 + j.val, by show _ < 14; omega⟩ else .reg credS

theorem ownSemFacts : Pipeline.OwnSemFacts cfg0.spec osem := by decide

theorem csem_injective : Function.Injective csem := by decide

theorem cellAt_injective : Function.Injective (fun x : Dev nD × Fin 10 => cellAt x.1 x.2) := by
  rintro ⟨c, j⟩ ⟨c', j'⟩ h
  have h1 : c = c' := congrArg (fun g : GSem nD τ sig => g.1.1) h
  have h2 : csem j = csem j' := congrArg Prod.snd h
  rw [h1, csem_injective h2]

def allCells : Finset (GSem nD τ sig) := Finset.univ.map ⟨fun x : Dev nD × Fin 10 => cellAt x.1 x.2, cellAt_injective⟩

/-- The eleven duties of a device's cells: one a cell, and the credit cell's second. -/
def tokIx (j : Fin 11) : Fin 10 := ⟨min j.val 9, by omega⟩
def tokOf (x : Dev nD × Fin 11) : GSem nD τ sig × ℕ × Bool := (cellAt x.1 (tokIx x.2), 0, decide (x.2.val = 10))

theorem tokOf_injective : Function.Injective tokOf := by
  rintro ⟨c, j⟩ ⟨c', j'⟩ h
  have h1 := cellAt_injective (a₁ := (c, tokIx j)) (a₂ := (c', tokIx j')) (congrArg Prod.fst h)
  have h2 : decide (j.val = 10) = decide (j'.val = 10) := congrArg (fun x : GSem nD τ sig × ℕ × Bool => x.2.2) h
  have h3 : tokIx j = tokIx j' := congrArg Prod.snd h1
  have h4 : c = c' := congrArg Prod.fst h1
  have h5 : ∀ j j' : Fin 11, decide (j.val = 10) = decide (j'.val = 10) → tokIx j = tokIx j' → j = j' := by decide
  rw [h4, h5 j j' h2 h3]

def allToks : Finset (GSem nD τ sig × ℕ × Bool) := Finset.univ.map ⟨tokOf, tokOf_injective⟩

def u₀ : UU :=
  (initOf (Pipeline.cells cfgs cellOf_inj) (Pipeline.launchToks cfgs cellOf_inj), (initOf allCells allToks, (Release.initSlots Finset.univ 2, 1)))

section Dev
variable (c : Dev nD)

/-- The duties of the own cells; -/
def ownToks : sProp 𝕄 :=
  iprop(dutyTok ER (barC c) 0 false ∗ (bigSep Finset.univ fun k : Fin 4 => dutyTok ER (sendC c k) 0 false)
    ∗ (bigSep Finset.univ fun k : Fin 4 => dutyTok ER (recvC c k) 0 false) ∗ bigSep Finset.univ fun j : Fin 2 => dutyTok ER (credC c) 0 (decide (j.val = 1)))
/-- those a device pays. -/
def payToks : sProp 𝕄 :=
  iprop(dutyTok ER (barC (peer c)) 0 false ∗ (bigSep Finset.univ fun k : Fin 4 => dutyTok ER (sendC c k) 0 false)
    ∗ (bigSep Finset.univ fun k : Fin 4 => dutyTok ER (recvC (peer c) k) 0 false)
    ∗ bigSep Finset.univ fun j : Fin 2 => dutyTok ER (credC (peer c)) 0 (decide (j.val = 1)))
/-- The positions at the own cells. -/
def poss : sProp 𝕄 :=
  iprop(atPos ER (barC c) 0 ∅ 0 ∗ (bigSep Finset.univ fun k : Fin 4 => atPos ER (sendC c k) 0 ∅ 0)
    ∗ (bigSep Finset.univ fun k : Fin 4 => atPos ER (recvC c k) 0 ∅ 0) ∗ atPos ER (credC c) 0 ∅ 0)
/-- The rights on landing slots: to read the own, to write the partner's. -/
def rights : sProp 𝕄 :=
  iprop((bigSep Finset.univ fun s : Fin 2 => readerAt ES (c, s) 0)
    ∗ bigSep Finset.univ fun k : Fin 4 => writeTok ES (peer c, slotOf k) (k.val / 2 + 1))
/-- The counters of the local transfers. -/
def outSems : sProp 𝕄 := iprop(semVal ((c : Thread nD τ), .dma (outS 0)) 0 ∗ semVal ((c : Thread nD τ), .dma (outS 1)) 0)

/-- Every slot's invariant, at some names. -/
def slotsI : sProp 𝕄 := iprop(∃ Ks : Slot → ℕ, bigSep Finset.univ (slotF (F := F) Ks))

omit [FloatOps F] in
instance slotsI_pers : BI.Persistent (slotsI (F := F)) := by unfold slotsI; infer_instance

/-- What a device is dealt; -/
def G : sProp 𝕄 :=
  iprop((bigSep Finset.univ fun k : Fin 10 => roundState ER (Rd m) (cellAt c k) 0)
    ∗ (bigSep Finset.univ fun k : Fin 10 => iprop(atPos ER (cellAt c k) 0 ∅ 0 ∗ reached ER (cellAt c k) 0))
    ∗ ownToks (F := F) c ∗ slotsI (F := F) ∗ rights (F := F) c)

/-- and what it holds once the cells are open. -/
def lin : sProp 𝕄 := iprop(poss (F := F) c ∗ payToks (F := F) c ∗ rights (F := F) c ∗ outSems (F := F) c)
def G' : sProp 𝕄 :=
  iprop((∃ (K : Dev nD × Fin 10 → ℕ), bigSep Finset.univ (cellF m K)) ∗ slotsI (F := F) ∗ lin (F := F) c)

end Dev

omit [FloatOps F] in
theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
omit [FloatOps F] in
theorem fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
omit [FloatOps F] in
theorem fin2 (Φ : Fin 2 → sProp 𝕄) : bigSep Finset.univ Φ = iprop(Φ 0 ∗ Φ 1) := bigSep_univ_eq_bigSepL [0, 1] (by decide) (by decide) Φ

omit [FloatOps F] in
/-- Ten pieces, one a cell, in the kernel's groups. -/
theorem ten (Ψ : GSem nD τ sig → sProp 𝕄) (c : Dev nD) : (bigSep Finset.univ fun k : Fin 10 => Ψ (cellAt c k))
    ⊢ iprop(Ψ (barC c) ∗ (bigSep Finset.univ fun k : Fin 4 => Ψ (sendC c k)) ∗ (bigSep Finset.univ fun k : Fin 4 => Ψ (recvC c k)) ∗ Ψ (credC c)) := by
  rw [fin10, fin4, fin4]
  show iprop(Ψ (barC c) ∗ Ψ (sendC c 0) ∗ Ψ (sendC c 1) ∗ Ψ (sendC c 2) ∗ Ψ (sendC c 3) ∗ Ψ (recvC c 0) ∗ Ψ (recvC c 1) ∗ Ψ (recvC c 2) ∗ Ψ (recvC c 3)
    ∗ Ψ (credC c)) ⊢ _
  iintro ⟨H0, H1, H2, H3, H4, H5, H6, H7, H8, H9⟩
  isplitl [H0]; · iexact H0
  isplitl [H1 H2 H3 H4]
  · isplitl [H1]; · iexact H1
    isplitl [H2]; · iexact H2
    isplitl [H3]; · iexact H3
    iexact H4
  isplitl [H5 H6 H7 H8]
  · isplitl [H5]; · iexact H5
    isplitl [H6]; · iexact H6
    isplitl [H7]; · iexact H7
    iexact H8
  iexact H9

omit [FloatOps F] in
theorem toks_in (c : Dev nD) : (bigSep Finset.univ fun j : Fin 11 => dutyTok ER (tokOf (c, j)).1 (tokOf (c, j)).2.1 (tokOf (c, j)).2.2) ⊢ ownToks (F := F) c := by
  unfold ownToks
  rw [fin11, fin4, fin4, fin2]
  iintro ⟨H0, H1, H2, H3, H4, H5, H6, H7, H8, H9, Ht⟩
  isplitl [H0]; · iexact H0
  isplitl [H1 H2 H3 H4]
  · isplitl [H1]; · iexact H1
    isplitl [H2]; · iexact H2
    isplitl [H3]; · iexact H3
    iexact H4
  isplitl [H5 H6 H7 H8]
  · isplitl [H5]; · iexact H5
    isplitl [H6]; · iexact H6
    isplitl [H7]; · iexact H7
    iexact H8
  isplitl [H9]; · iexact H9
  iexact Ht

/-! ## The deal -/

def writeIx (x : Dev nD × Fin 4) : Slot × ℕ := ((peer x.1, slotOf x.2), x.2.val / 2)
theorem writeIx_injective : Function.Injective writeIx := by
  rintro ⟨c, k⟩ ⟨c', k'⟩ h
  have h1 : peer c = peer c' := congrArg (fun x : Slot × ℕ => x.1.1) h
  have h2 : slotOf k = slotOf k' := congrArg (fun x : Slot × ℕ => x.1.2) h
  have h3 : k.val / 2 = k'.val / 2 := congrArg Prod.snd h
  have h4 : c = c' := by rw [← peer_peer c, h1, peer_peer]
  have h5 : k = k' := Fin.ext (by have : k.val % 2 = k'.val % 2 := congrArg Fin.val h2; omega)
  rw [h4, h5]

omit [FloatOps F] in
theorem rights_in : iprop(bigSep Finset.univ (fun x : Slot => (readerAt ES x 0 : sProp 𝕄))
      ∗ bigSep ((Finset.univ : Finset Slot) ×ˢ Finset.range 2) (fun x => writeTok ES x.1 (x.2 + 1)))
    ⊢ bigSep Finset.univ fun c : Dev nD => rights (F := F) c := by
  unfold rights
  rw [bigSep_sep', bigSep_univ_prod]
  refine sep_mono_right ?_
  have hs : Finset.univ.map ⟨writeIx, writeIx_injective⟩ ⊆ (Finset.univ : Finset Slot) ×ˢ Finset.range 2 := by
    intro x hx
    rw [Finset.mem_map] at hx
    obtain ⟨y, -, rfl⟩ := hx
    refine Finset.mem_product.mpr ⟨Finset.mem_univ _, Finset.mem_range.mpr ?_⟩
    have := y.2.isLt
    show y.2.val / 2 < 2
    omega
  have h : bigSep (Finset.univ.map ⟨writeIx, writeIx_injective⟩) (fun x : Slot × ℕ => (writeTok ES x.1 (x.2 + 1) : sProp 𝕄))
      = bigSep Finset.univ fun c : Dev nD => bigSep Finset.univ fun k : Fin 4 => writeTok ES (peer c, slotOf k) (k.val / 2 + 1) := by
    rw [BI.bigSep_map, bigSep_univ_prod]; rfl
  exact (BI.bigSep_subset hs).trans (Entails.of_eq h)

theorem deal : BI.own (embR (initOf allCells allToks, (Release.initSlots (Finset.univ : Finset Slot) 2, (1 : Counters))))
    ⊢ (|={Set.univ}=> bigSep Finset.univ (G m) : sProp 𝕄) := by
  have hX (Φ : GSem nD τ sig → sProp 𝕄) : bigSep allCells Φ = bigSep Finset.univ fun c : Dev nD => bigSep Finset.univ fun k : Fin 10 => Φ (cellAt c k) := by
    unfold allCells; rw [BI.bigSep_map, bigSep_univ_prod]; rfl
  have hT : bigSep allToks (fun x => (dutyTok ER x.1 x.2.1 x.2.2 : sProp 𝕄)) ⊢ bigSep Finset.univ fun c : Dev nD => ownToks (F := F) c := by
    unfold allToks; rw [BI.bigSep_map, bigSep_univ_prod]
    exact bigSep_mono fun c _ => toks_in c
  iintro HX
  ihave HX := (own_pair_emb embR (initOf allCells allToks) (Release.initSlots (Finset.univ : Finset Slot) 2, (1 : Counters))) $$ HX
  icases HX with ⟨HR, HX⟩
  ihave HX := (own_pair_emb (Emb.trans Emb.inr embR) (Release.initSlots (Finset.univ : Finset Slot) 2) (1 : Counters)) $$ HX
  icases HX with ⟨HS, -⟩
  imod (Rounds.fund ER (Rd m) allCells allToks) $$ HR with ⟨Hst, Hr, Hat, Htok⟩
  imod (slots_init ES (Finset.univ : Finset Slot) 2 (fun x => rsAny (F := F) x.1 x.2.val)) $$ HS with ⟨%Ks, -, #HI, Hrd, Hwr⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := hT $$ Htok
  ihave Hri := (rights_in (F := F)) $$ [Hrd Hwr]
  · isplitl [Hrd] <;> iassumption
  ihave #HSI := (show iprop(bigSep Finset.univ (slotF (F := F) Ks)) ⊢ slotsI (F := F) from by unfold slotsI; iintro H; iexists Ks; iexact H) $$ [HI]
  · iexact HI
  ihave HSS := (BI.bigSep_of_persistent (Finset.univ : Finset (Dev nD)) (slotsI (F := F))) $$ HSI
  unfold G; simp only [bigSep_sep']
  isplitl [Hst]; · iexact Hst
  isplitl [Hat Hr]
  · isplitl [Hat] <;> iassumption
  isplitl [Htok]; · iexact Htok
  isplitl [HSS]; · iexact HSS
  iexact Hri

/-! ## Opening the cells -/

omit [FloatOps F] in
theorem ownSems0_eq (c : Dev nD) : (Pipeline.ownSems0 (Ix := ℕ) (Name := ℕ) (U := UU) (Lvl := ℕ) (Val := Elt F) (τ := τ) osem c : sProp 𝕄)
    = iprop(semVal (sendC c 0) 0 ∗ semVal (sendC c 1) 0 ∗ semVal (sendC c 2) 0 ∗ semVal (sendC c 3) 0
      ∗ semVal (recvC c 0) 0 ∗ semVal (recvC c 1) 0 ∗ semVal (recvC c 2) 0 ∗ semVal (recvC c 3) 0
      ∗ semVal ((c : Thread nD τ), .dma (outS 0)) 0 ∗ semVal ((c : Thread nD τ), .dma (outS 1)) 0 ∗ semVal (credC c) 0) := by
  rw [Pipeline.ownSems0_eq_of_list c osem [0, 1, 2, 3, 4, 5, 6, 7, 8, 9, 10] (by decide) (by decide)]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0 (c : Dev nD) :
    iprop(Pipeline.ownSems0 (Ix := ℕ) (Name := ℕ) (U := UU) (Lvl := ℕ) (Val := Elt F) (τ := τ) osem c ∗ unscopedSems0 c)
      ⊢ iprop((bigSep Finset.univ fun k : Fin 10 => (semVal (cellAt c k) 0 : sProp 𝕄)) ∗ outSems (F := F) c) := by
  rw [ownSems0_eq, unscopedSems0_eq, fin10]
  unfold outSems
  iintro ⟨⟨H1, H2, H3, H4, H5, H6, H7, H8, Ha, Hb, H9⟩, H0⟩
  isplitr [Ha Hb]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · isplitl [Ha]; · iexact Ha
    iexact Hb

/-- A device's cells opened, its positions in the kernel's groups. -/
def opened (c : Dev nD) : sProp 𝕄 :=
  iprop((bigSep Finset.univ fun k : Fin 10 => iprop(∃ κ : ℕ, cellInv ER (Rd m) κ (cellAt c k) ∗ reached ER (cellAt c k) 0))
    ∗ poss (F := F) c ∗ ownToks (F := F) c ∗ slotsI (F := F) ∗ rights (F := F) c ∗ outSems (F := F) c)

theorem open_dev (c : Dev nD) :
    iprop(Pipeline.ownSems0 (Ix := ℕ) (Name := ℕ) (U := UU) (Lvl := ℕ) (Val := Elt F) (τ := τ) osem c ∗ unscopedSems0 c ∗ G m c)
      ⊢ |={Set.univ}=> opened m c := by
  have hopen : iprop((bigSep Finset.univ fun k : Fin 10 => semVal (cellAt c k) 0) ∗ bigSep Finset.univ fun k : Fin 10 => roundState ER (Rd m) (cellAt c k) 0)
      ⊢ (|={Set.univ}=> bigSep Finset.univ fun k => iprop(∃ κ : ℕ, cellInv ER (Rd m) κ (cellAt c k)) : sProp 𝕄) := by
    rw [← bigSep_sep']
    exact (bigSep_mono fun k _ => (Rounds.body_intro ER (Rd m) (cellAt c k)).trans inv_alloc).trans (bigSep_fupd _ _)
  have hjoin : iprop((bigSep Finset.univ fun k : Fin 10 => iprop(∃ κ : ℕ, cellInv ER (Rd m) κ (cellAt c k))) ∗ bigSep Finset.univ fun k : Fin 10 => reached ER (cellAt c k) 0)
      ⊢ (bigSep Finset.univ fun k => iprop(∃ κ : ℕ, cellInv ER (Rd m) κ (cellAt c k) ∗ reached ER (cellAt c k) 0) : sProp 𝕄) := by
    rw [← bigSep_sep']
    refine bigSep_mono fun k _ => ?_
    show iprop((∃ κ : ℕ, cellInv ER (Rd m) κ (cellAt c k)) ∗ reached ER (cellAt c k) 0) ⊢ iprop(∃ κ : ℕ, cellInv ER (Rd m) κ (cellAt c k) ∗ reached ER (cellAt c k) 0)
    iintro ⟨⟨%κ, H⟩, HR⟩
    iexists κ
    isplitl [H] <;> iassumption
  unfold G opened
  rw [bigSep_sep' Finset.univ (fun k : Fin 10 => (atPos ER (cellAt c k) 0 ∅ 0 : sProp 𝕄)) (fun k => reached ER (cellAt c k) 0)]
  iintro ⟨Hos, Hus, Hst, ⟨Hat, Hre⟩, Htok, HSI, Hri⟩
  ihave Hv := (sems0 (F := F) c) $$ [Hos Hus]
  · isplitl [Hos] <;> iassumption
  icases Hv with ⟨Hv, Ho⟩
  imod hopen $$ [Hv Hst] with Hinv
  · isplitl [Hv] <;> iassumption
  imodintro
  ihave Hinv := hjoin $$ [Hinv Hre]
  · isplitl [Hinv] <;> iassumption
  isplitl [Hinv]; · iexact Hinv
  isplitl [Hat]; · unfold poss; iapply (ten (fun g => (atPos ER g 0 ∅ 0 : sProp 𝕄)) c); iexact Hat
  isplitl [Htok]; · iexact Htok
  isplitl [HSI]; · iexact HSI
  isplitl [Hri]; · iexact Hri
  iexact Ho

omit [FloatOps F] in
/-- The tokens handed to the partners that pay them. -/
theorem toks_swap : (bigSep Finset.univ fun c : Dev nD => ownToks (F := F) c) ⊢ bigSep Finset.univ fun c : Dev nD => payToks (F := F) c := by
  unfold ownToks payToks
  rw [bigSep_sep', bigSep_sep', bigSep_sep', bigSep_sep', bigSep_sep', bigSep_sep',
    bigSep_univ_equiv swap (fun c : Dev nD => (dutyTok ER (barC c) 0 false : sProp 𝕄)),
    bigSep_univ_equiv swap (fun c : Dev nD => (bigSep Finset.univ fun k : Fin 4 => dutyTok ER (recvC c k) 0 false : sProp 𝕄)),
    bigSep_univ_equiv swap (fun c : Dev nD => (bigSep Finset.univ fun j : Fin 2 => dutyTok ER (credC c) 0 (decide (j.val = 1)) : sProp 𝕄))]
  exact Entails.of_eq rfl

theorem regroup : bigSep Finset.univ (opened m) ⊢ bigSep Finset.univ (G' m) := by
  have h1 : (bigSep Finset.univ fun c : Dev nD => bigSep Finset.univ fun k : Fin 10 => iprop(∃ κ : ℕ, cellInv ER (Rd m) κ (cellAt c k) ∗ reached ER (cellAt c k) 0) : sProp 𝕄)
      ⊢ iprop(∃ K : Dev nD × Fin 10 → ℕ, bigSep Finset.univ (cellF m K)) := by
    rw [← bigSep_univ_prod (fun x : Dev nD × Fin 10 => iprop(∃ κ : ℕ, cellInv ER (Rd m) κ (cellAt x.1 x.2) ∗ reached ER (cellAt x.1 x.2) 0))]
    exact BI.bigSep_exists_pi Finset.univ (fun (x : Dev nD × Fin 10) (κ : ℕ) => (iprop(cellInv ER (Rd m) κ (cellAt x.1 x.2) ∗ reached ER (cellAt x.1 x.2) 0) : sProp 𝕄))
  have h2 : bigSep Finset.univ (opened m) = iprop((bigSep Finset.univ fun c : Dev nD => bigSep Finset.univ fun k : Fin 10 => iprop(∃ κ : ℕ, cellInv ER (Rd m) κ (cellAt c k) ∗ reached ER (cellAt c k) 0))
      ∗ (bigSep Finset.univ fun c => poss (F := F) c) ∗ (bigSep Finset.univ fun c => ownToks (F := F) c) ∗ (bigSep Finset.univ fun _ : Dev nD => slotsI (F := F))
      ∗ (bigSep Finset.univ fun c => rights (F := F) c) ∗ bigSep Finset.univ fun c => outSems (F := F) c) := by
    unfold opened
    rw [bigSep_sep', bigSep_sep', bigSep_sep', bigSep_sep', bigSep_sep']
  have h3 : bigSep Finset.univ (G' m) = iprop((bigSep Finset.univ fun _ : Dev nD => iprop(∃ K : Dev nD × Fin 10 → ℕ, bigSep Finset.univ (cellF m K)))
      ∗ (bigSep Finset.univ fun _ : Dev nD => slotsI (F := F)) ∗ (bigSep Finset.univ fun c => poss (F := F) c) ∗ (bigSep Finset.univ fun c => payToks (F := F) c)
      ∗ (bigSep Finset.univ fun c => rights (F := F) c) ∗ bigSep Finset.univ fun c => outSems (F := F) c) := by
    unfold G' lin
    rw [bigSep_sep', bigSep_sep', bigSep_sep', bigSep_sep', bigSep_sep']
  rw [h2, h3]
  iintro ⟨HI, Hp, Ht, HS, Hr, Ho⟩
  ihave #HI := h1 $$ HI
  ihave Ht := (toks_swap (F := F)) $$ Ht
  ihave HII := (BI.bigSep_of_persistent (Finset.univ : Finset (Dev nD)) (iprop(∃ K : Dev nD × Fin 10 → ℕ, bigSep Finset.univ (cellF m K)))) $$ HI
  isplitl [HII]; · iexact HII
  isplitl [HS]; · iexact HS
  isplitl [Hp]; · iexact Hp
  isplitl [Ht]; · iexact Ht
  isplitl [Hr]; · iexact Hr
  iexact Ho

theorem open_all : (bigSep Finset.univ fun c =>
      iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_dev m c).trans (bigSep_fupd _ _)).trans (BI.fupd_mono (regroup m))

end Cert.Exchange

end
-- ==== Proof.Launch.lean ====
/-
# `Launch`: the credits of the launch, the first state, the last one, and the run of the sixteen kernels
-/
module

public import proofs.«01_k».proof.Proof.Ghost
public import Idealize.ShloMosaic.Lib.Pipeline.CollectiveSegs

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot slot_take slot_release slots_init)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The credits dealt at launch -/

theorem owed_zero (d : Dev nD) : owedT d 0 = tallyAt (barC (peer d)) 0 1
    + (∑ k : Fin 4, tallyAt (recvC (peer d) k) 0 N + ∑ j : Fin 2, tallyAt (credC (peer d)) j.val 1) := by
  unfold owedT barO recvO credO
  rw [if_pos le_rfl]
  refine congrArg₂ _ rfl (congrArg₂ _ (Finset.sum_congr rfl fun k _ => if_pos (Nat.zero_le _)) (Finset.sum_congr rfl fun j _ => if_pos (Nat.zero_le _)))

/-- A device owes only its partner. -/
theorem owed_other (d c : Dev nD) (sm : SemLoc sig) (h : d ≠ peer c) : owedT d 0 ((c : Thread nD τ), sm) = 0 := by
  have hne (sm' : SemLoc sig) : ((c : Thread nD τ), sm) ≠ (((peer d : Dev nD) : Thread nD τ), sm') := fun e => by
    have e1 : c = peer d := congrArg (fun g : GSem nD τ sig => g.1.1) e
    exact h (by rw [e1, peer_peer])
  rw [owed_zero, Pi.add_apply, Pi.add_apply, Finset.sum_apply, Finset.sum_apply, tallyAt_ne_cell (hne _),
    Finset.sum_eq_zero fun k _ => tallyAt_ne_cell (hne _) _ _, Finset.sum_eq_zero fun k _ => tallyAt_ne_cell (hne _) _ _, add_zero, add_zero]

theorem owed_all (c : Dev nD) (sm : SemLoc sig) : (∑ d, owedT d 0) ((c : Thread nD τ), sm) = owedT (peer c) 0 ((c : Thread nD τ), sm) := by
  rw [Finset.sum_apply]
  exact Finset.sum_eq_single _ (fun d _ hd => owed_other d c sm hd) fun hn => absurd (Finset.mem_univ _) hn

theorem tally_self (g : GSem nD τ sig) (i k : ℕ) : (tallyAt g i k : CellTallies nD τ sig ℕ) g = Finsupp.single i k := by
  unfold tallyAt tallyOn; exact Pi.single_eq_same _ _

theorem owed_self (c : Dev nD) : owedT (peer c) 0 = tallyAt (barC c) 0 1 + (∑ k : Fin 4, tallyAt (recvC c k) 0 N + ∑ j : Fin 2, tallyAt (credC c) j.val 1) := by
  rw [owed_zero, peer_peer]

section Ne
variable (c : Dev nD)
theorem bar_ne_recv (k : Fin 4) : barC c ≠ recvC c k := fun e => by cases congrArg Prod.snd e
theorem bar_ne_cred : barC c ≠ credC c := fun e => credS_ne (SemLoc.reg.inj (congrArg Prod.snd e)).symm
theorem recv_ne_cred (k : Fin 4) : recvC c k ≠ credC c := fun e => by cases congrArg Prod.snd e
theorem recv_ne_recv (k k' : Fin 4) (h : k ≠ k') : recvC c k ≠ recvC c k' := fun e => by
  have e1 : recvS k = recvS k' := SemLoc.dma.inj (congrArg Prod.snd e)
  have e2 : 8 + k.val = 8 + k'.val := congrArg Fin.val e1
  exact h (Fin.ext (by omega))
end Ne

theorem credit_bar (c : Dev nD) : tallyOn (barC c) (launchCredit (Pipeline.owing fun d => owedT d 0) 0 (barC c)) = (tallyAt (barC c) 0 1 : CellTallies nD τ sig ℕ) := by
  rw [Pipeline.tallyOn_launchCredit_owing, owed_all, owed_self, Pi.add_apply, Pi.add_apply, Finset.sum_apply, Finset.sum_apply, tally_self,
    Finset.sum_eq_zero fun k _ => tallyAt_ne_cell (bar_ne_recv c k) _ _, Finset.sum_eq_zero fun k _ => tallyAt_ne_cell (bar_ne_cred c) _ _, add_zero, add_zero]
  rfl
theorem credit_recv (c : Dev nD) (k : Fin 4) :
    tallyOn (recvC c k) (launchCredit (Pipeline.owing fun d => owedT d 0) 0 (recvC c k)) = (tallyAt (recvC c k) 0 N : CellTallies nD τ sig ℕ) := by
  rw [Pipeline.tallyOn_launchCredit_owing, owed_all, owed_self, Pi.add_apply, Pi.add_apply, Finset.sum_apply, Finset.sum_apply, tallyAt_ne_cell (bar_ne_recv c k).symm,
    Finset.sum_eq_single k (fun k' _ hk => tallyAt_ne_cell (recv_ne_recv c k k' hk.symm) _ _) (fun hn => absurd (Finset.mem_univ _) hn), tally_self,
    Finset.sum_eq_zero fun j _ => tallyAt_ne_cell (recv_ne_cred c k) _ _, add_zero, zero_add]
  rfl
theorem credit_cred (c : Dev nD) :
    tallyOn (credC c) (launchCredit (Pipeline.owing fun d => owedT d 0) 0 (credC c)) = (tallyAt (credC c) 0 1 + tallyAt (credC c) 1 1 : CellTallies nD τ sig ℕ) := by
  rw [Pipeline.tallyOn_launchCredit_owing, owed_all, owed_self, Pi.add_apply, Pi.add_apply, Finset.sum_apply, Finset.sum_apply, tallyAt_ne_cell (bar_ne_cred c).symm,
    Finset.sum_eq_zero fun k _ => tallyAt_ne_cell (recv_ne_cred c k).symm _ _, zero_add, zero_add, Fin.sum_univ_two, tally_self, tally_self, tallyOn_add]
  rfl

omit [FloatOps F] in
theorem credits (c : Dev nD) : (Pipeline.launchCred (fun d => owedT d 0) c : sProp 𝕄)
    ⊢ iprop(cred (tallyAt (barC c) 0 1) ∗ (bigSep Finset.univ fun k : Fin 4 => cred (tallyAt (recvC c k) 0 N))
      ∗ cred (tallyAt (credC c) 0 1) ∗ cred (tallyAt (credC c) 1 1)) := by
  have h : bigSep (Finset.univ.map ⟨csem, csem_injective⟩)
        (fun sm : SemLoc sig => (cred (tallyOn ((c : Thread nD τ), sm) (launchCredit (Pipeline.owing fun d => owedT d 0) 0 ((c : Thread nD τ), sm))) : sProp 𝕄))
      = bigSep Finset.univ fun k : Fin 10 => cred (tallyOn (cellAt c k) (launchCredit (Pipeline.owing fun d => owedT d 0) 0 (cellAt c k))) := by
    rw [BI.bigSep_map]; rfl
  unfold Pipeline.launchCred
  refine (BI.bigSep_subset (Finset.subset_univ (Finset.univ.map ⟨csem, csem_injective⟩))).trans ((Entails.of_eq h).trans ?_)
  refine (ten (fun g => cred (tallyOn g (launchCredit (Pipeline.owing fun d => owedT d 0) 0 g))) c).trans ?_
  rw [credit_bar, credit_cred, bigSep_congr (s := Finset.univ) fun (k : Fin 4) _ => congrArg cred (credit_recv c k)]
  iintro ⟨Hb, -, Hr, Hc⟩
  isplitl [Hb]; · iexact Hb
  isplitl [Hr]; · iexact Hr
  iapply (cred_add _ _).1
  iexact Hc

/-! ## From the launch to the first point -/

/-- What a device starts from. -/
def start (c : Dev nD) : sProp 𝕄 :=
  iprop((locO c ↦{fullShare} (m (locO c) : Buf (Elt F) (locO c))) ∗ levAts L lv
    ∗ (cred (tallyAt (barC c) 0 1) ∗ (bigSep Finset.univ fun k : Fin 4 => cred (tallyAt (recvC c k) 0 N))
      ∗ cred (tallyAt (credC c) 0 1) ∗ cred (tallyAt (credC c) 1 1))
    ∗ G' m c)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owedT d 0) c ∗ prngReg c (ρ c) ∗ G' m c)
      ⊢ |={Set.univ}=> iprop(start m c ∗ emp) := by
  rw [Pipeline.unscopedRestP_none, unscopedRest0_eq]
  iintro ⟨Ho, Hlev, Hcr, -, HG⟩
  ihave Hc := (credits (F := F) c) $$ Hcr
  imodintro
  unfold start
  isplitl
  · isplitl [Ho]; · iexact Ho
    isplitl [Hlev]; · iexact Hlev
    isplitl [Hc]; · iexact Hc
    iexact HG
  · iempintro

section Start
variable (c : Dev nD)

theorem sends_start : iprop((bigSep Finset.univ fun k : Fin 4 => dutyTok ER (sendC c k) 0 false) ∗ (bigSep Finset.univ fun k : Fin 4 => dutyTok ER (recvC (peer c) k) 0 false)
      ∗ (bigSep Finset.univ fun k : Fin 4 => writeTok ES (peer c, slotOf k) (k.val / 2 + 1)) ∗ bigSep Finset.univ fun k : Fin 4 => atPos ER (sendC c k) 0 ∅ 0)
    ⊢ bigSep Finset.univ (sendP (F := F) c 0) := by
  have e : bigSep Finset.univ (sendP (F := F) c 0) = bigSep Finset.univ fun k : Fin 4 =>
      iprop(dutyTok ER (sendC c k) 0 false ∗ dutyTok ER (recvC (peer c) k) 0 false ∗ writeTok ES (peer c, slotOf k) (k.val / 2 + 1) ∗ atPos ER (sendC c k) 0 ∅ 0) :=
    bigSep_congr fun k _ => by unfold sendP; rw [if_pos (Nat.zero_le _)]
  rw [e, bigSep_sep', bigSep_sep', bigSep_sep']
theorem recvs_start : iprop((bigSep Finset.univ fun k : Fin 4 => atPos ER (recvC c k) 0 ∅ 0) ∗ bigSep Finset.univ fun k : Fin 4 => cred (tallyAt (recvC c k) 0 N))
    ⊢ bigSep Finset.univ (recvP (F := F) c 0) := by
  have e : bigSep Finset.univ (recvP (F := F) c 0) = bigSep Finset.univ fun k : Fin 4 => iprop(atPos ER (recvC c k) 0 ∅ 0 ∗ cred (tallyAt (recvC c k) 0 N)) :=
    bigSep_congr fun k _ => by unfold recvP; rw [if_pos (Nat.zero_le _)]
  rw [e, bigSep_sep']
theorem gives_start : (bigSep Finset.univ fun j : Fin 2 => dutyTok ER (credC (peer c)) 0 (decide (j.val = 1))) ⊢ bigSep Finset.univ (giveP (F := F) c 0) := by
  have e : bigSep Finset.univ (giveP (F := F) c 0) = bigSep Finset.univ fun j : Fin 2 => dutyTok ER (credC (peer c)) 0 (decide (j.val = 1)) :=
    bigSep_congr fun k _ => by unfold giveP; rw [if_pos (Nat.zero_le _)]
  rw [e]
theorem logs_start (f : Buf (Elt F) (locL c)) : (locL c ↦{fullShare} f) ⊢ bigSep Finset.univ (logP m c 0) := by
  rw [show (locL c ↦{fullShare} f : sProp 𝕄) = (locL c ↦[slotSet 0 ∪ slotSet 1]{fullShare} f) from by rw [← slots_cover], fin2]
  refine (pointsTo_union slots_disjoint).1.trans ?_
  have e (s : Fin 2) : logP m c 0 s = lsv m c fullShare s s 0 := by
    unfold logP; rw [if_pos (Nat.zero_le _)]
    rw [show cnt s.val 0 = 0 from by unfold cnt; omega]
  rw [e, e]
  unfold lsv
  iintro ⟨H0, H1⟩
  isplitl [H0]
  · iexists f
    isplitr; · ipureintro; exact fun j _ hj => absurd hj (Nat.not_lt_zero _)
    iexact H0
  iexists f
  isplitr; · ipureintro; exact fun j _ hj => absurd hj (Nat.not_lt_zero _)
  iexact H1
omit m in
theorem lands_start (m) (f : Buf (Elt F) (locR c)) : iprop((locR c ↦{fullShare} f) ∗ bigSep Finset.univ fun s : Fin 2 => readerAt ES (c, s) 0)
    ⊢ bigSep Finset.univ (landP m c 0) := by
  rw [show (locR c ↦{fullShare} f : sProp 𝕄) = (locR c ↦[slotSet 0 ∪ slotSet 1]{fullShare} f) from by rw [← slots_cover], fin2, fin2]
  have e (s : Fin 2) : landP m c 0 s = iprop(rsAny c s ∗ readerAt ES (c, s) 0) := by unfold landP; exact if_pos le_rfl
  rw [e, e]
  unfold rsAny
  iintro ⟨H, HA, HB⟩
  ihave H := (pointsTo_union (ℓ := locR c) (q := fullShare) (f := f) slots_disjoint).1 $$ H
  icases H with ⟨H0, H1⟩
  isplitl [H0 HA]
  · isplitl [H0]; · iexists f; iexact H0
    iexact HA
  isplitl [H1]; · iexists f; iexact H1
  iexact HB

theorem phi0 : iprop(start m c ∗ Pipeline.prefHeld Pipeline.Prefetch.none c (fun _ => fullShare.right) (fun k => k.elim0) ∗ Pipeline.scopedRest cfg0.spec c)
    ⊢ (dats m 0 c).Φ 0 := by
  rw [show (dats m 0 c).Φ 0 = iprop(∃ (K : Dev nD × Fin 10 → ℕ) (Ks : Slot → ℕ), Facts m K Ks ∗ St m c (8 * 0)) from rfl, scopedRest0_eq]
  unfold start G' slotsI lin poss payToks rights outSems St barP takeP outP Facts
  rw [if_pos (Nat.zero_le 0), if_pos (Nat.zero_le _)]
  iintro ⟨⟨Ho, Hlev, ⟨Cb, Cr, C0, C1⟩, ⟨%K, HK⟩, ⟨%Ks, HS⟩, ⟨Pb, Ps, Pr, Pc⟩, ⟨Tb, Ts, Tr, Tc⟩, ⟨Hrd, Hwr⟩, ⟨O0, O1⟩⟩, -, ⟨%f0, S0⟩, ⟨%f1, S1⟩, ⟨%f2, S2⟩, ⟨%f3, S3⟩⟩
  iexists K; iexists Ks
  isplitl [HK HS Hlev]
  · isplitl [HK]; · iexact HK
    isplitl [HS]; · iexact HS
    iexact Hlev
  isplitl [Pb Tb Cb]
  · isplitl [Pb]; · iexact Pb
    isplitl [Tb]; · iexact Tb
    iexact Cb
  isplitl [Ts Tr Hwr Ps]
  · iapply (sends_start (F := F) c)
    isplitl [Ts]; · iexact Ts
    isplitl [Tr]; · iexact Tr
    isplitl [Hwr]; · iexact Hwr
    iexact Ps
  isplitl [Pr Cr]
  · iapply (recvs_start (F := F) c)
    isplitl [Pr]; · iexact Pr
    iexact Cr
  isplitl [S0]
  · iapply (logs_start m c f0); iexact S0
  isplitl [S1 Hrd]
  · iapply (lands_start c m f1)
    isplitl [S1]; · iexact S1
    iexact Hrd
  isplitl [Tc]
  · iapply (gives_start (F := F) c); iexact Tc
  isplitl [Pc C0 C1]
  · isplitl [Pc]; · iexact Pc
    isplitl [C0]; · iexact C0
    iexact C1
  isplitl [Ho]
  · iexists (m (locO c))
    isplitr
    · ipureintro
      intro j hj
      have e : 512 * cntOut (8 * 0) = 0 := by decide
      omega
    iexact Ho
  isplitl [S2]; · iexists f2; iexact S2
  isplitl [S3]; · iexists f3; iexact S3
  isplitl [O0]; · iexact O0
  iexact O1

/-- What the last point leaves to be read off: the barrier counter and the result. -/
def fin (c : Dev nD) : sProp 𝕄 := iprop(unscopedSems0 c ∗ (locO c ↦{fullShare} (OutF m c : Buf (Elt F) (locO c))))

theorem phiN : (dats m 0 c).Φ (Fin.last cfg0.N) ⊢ iprop(fin m c ∗ Pipeline.ownSems0 osem c ∗ Pipeline.scopedRest cfg0.spec c) := by
  have e : (dats m 0 c).Φ (Fin.last cfg0.N) = Fin' m c := by
    show PhiT m c grid0.N = _
    rw [N_0]; exact if_neg (Nat.lt_irrefl _)
  rw [e, scopedRest0_eq, ownSems0_eq]
  unfold fin Fin' scrAny
  rw [unscopedSems0_eq, fin4, fin4]
  iintro ⟨⟨Hb, Hc, ⟨A0, A1, A2, A3⟩, ⟨B0, B1, B2, B3⟩, O0, O1⟩, Ho, S0, S1, S2, S3⟩
  isplitl [Hb Ho]
  · isplitl [Hb]; · iexact Hb
    iexact Ho
  isplitl [A0 A1 A2 A3 B0 B1 B2 B3 O0 O1 Hc]
  · isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [O0]; · iexact O0
    isplitl [O1]; · iexact O1
    iexact Hc
  isplitl [S0]; · iexact S0
  isplitl [S1]; · iexact S1
  isplitl [S2]; · iexact S2
  iexact S3

end Start

/-- What a final memory satisfies at device `c`. -/
def QY (c : Dev nD) (s : MemSt nD τ sig (Elt F)) : Prop :=
  s.mem (locO c) = (OutF m c : Buf (Elt F) (locO c)) ∧ ∀ sm : SemLoc sig, sm.isScoped .tc = false → s.sem ((c.tc : Thread nD τ), sm) = 0

theorem read_fin (c : Dev nD) (s' : Phys nD τ sig (Elt F)) : iprop(fin m c ∗ emp ∗ SI s') ⊢ |={Set.univ}=> iprop(⌜QY m c s'.mem⌝ ∗ SI s') := by
  unfold fin QY
  iintro ⟨⟨Hu, Ho⟩, -, HSI⟩
  icombine HSI Ho gives %h
  imod (Pipeline.unscopedSems0_read (X := unscopedSems0 c) (c := c) fupd_intro s') $$ [Hu HSI] with ⟨%hu, HSI⟩
  · isplitl [Hu] <;> iassumption
  imodintro
  isplitr
  · ipureintro; exact ⟨Buf.eq_of_forall_mem_univ h, hu⟩
  iexact HSI

theorem share_eq (c : Dev nD) (w : Fin cfg0.W) : (dats m 0 c).share w = fullShare := by unfold Dat.share; split <;> rfl

theorem waits (c : Dev nD) : (levAts L lv : sProp 𝕄) ⊢ Pipeline.cellsWaits cfgs (dats m) 2 0 c :=
  Pipeline.cellsWaits_intro cfgs (dats m) 2 0 c fun w s t => mayWait_two c _ _

/-! ## The run -/

/-- The window's array after the run. -/
def arrN (c : Dev nD) (w : Fin cfg0.W) : Buf (Elt F) ((cfg0.win w).arr.view.loc (c : Thread nD τ)) := (dats m 0 c).arrAt w cfg0.N

def QC : PUnit × MemSt nD τ sig (Elt F) → Prop := fun r =>
  (∀ c : Dev nD, r.2.mem (locO c) = (OutF m c : Buf (Elt F) (locO c))) ∧
    ∀ (c : Dev nD) (w : Fin cfg0.W), r.2.mem ((cfg0.win w).arr.view.loc (c : Thread nD τ)) = arrN m c w

/-- Every weakly fair execution of the sixteen kernels ends, with each device's result at `OutF`, the arguments in
    place and every counter at zero. -/
theorem run_main (ρ : Dev nD → PrngReg) : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 2 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owedT d 0) (howed₀ := fun _ => rfl) (howedN := fun c => owedT_end c _ (by show 1280 ≤ 8 * grid0.N; rw [N_0]))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := open_all m)
    (hA := fun _ _ => rfl) (hpf := fun _ k => k.elim0)
    (X := start m) (Y := fin m) (Z := fun _ => iprop(emp))
    (hX := start_intro m ρ) (hin := phi0 m) (hout := phiN m)
    (QY := QY m) (hY := read_fin m)
    (hQ := fun _ h hs => ⟨⟨fun c => (h c).2.2.1, fun c w => (h c).1 w⟩, sem_eq_zero hs fun c => (h c).2.2.2⟩)

/-- The arguments stay. -/
theorem arrN_x (c : Dev nD) : arrN m c (0 : Fin 2) = m ((c : Thread nD τ).loc main_arg0) := (dats m 0 c).arrAt_in (0 : Fin 2) rfl _
theorem arrN_w (c : Dev nD) : arrN m c (1 : Fin 2) = m ((c : Thread nD τ).loc main_arg1) := (dats m 0 c).arrAt_in (1 : Fin 2) rfl _

end Cert.Exchange

end
-- ==== Proof.Frames.lean ====
/-
# `Frames`: the frame claims, read off the runs

The kernel's text is the same at both instances, so one run serves both.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Exchange

open Idealize.ShloMosaic Idealize.ShloMosaic.TcCoe Idealize.SL.Sem
open Cert.KernelIdeal Cert.KernelIdeal.Gen

variable {F : FTy → Type} [FloatOps F]

/-- The run, read at the result, the arguments and the counters. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_v1) = (OutF m c : Buf (Elt F) (locO c))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono
    (fun _ h => ⟨fun c => ⟨h.1.1 c, (h.1.2 c 0).trans (arrN_x m c), (h.1.2 c 1).trans (arrN_w m c)⟩, h.2⟩) (run_main m ρ)

/-- The same, of the arguments and the counters alone. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => (h.1 c).2, h.2⟩) (run m ρ)

/-! ### The two readings of the kernel are one text -/

theorem body_same : @Cert.Kernel.cc0_body F _ Cert.Kernel.Gen.facts = @Cert.KernelIdeal.cc0_body F _ Cert.KernelIdeal.Gen.facts :=
  rfl

theorem table_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | ⟨0, _⟩, (t, s) => rfl

theorem defs_same : @Cert.Kernel.defs F _ Cert.Kernel.Gen.facts = @Cert.KernelIdeal.defs F _ Cert.KernelIdeal.Gen.facts := by
  unfold Cert.Kernel.defs Cert.KernelIdeal.defs
  exact congrArg (Pipeline.defs _) table_same

/-! ### The claims -/

theorem frame_kernel : Cert.quiescent_Kernel (hKernel := Cert.Kernel.Gen.facts) := fun m ρ _ => by
  rw [defs_same (F := Bits)]
  exact frame (F := Bits) m ρ

theorem frame_ideal : Cert.quiescent_KernelIdeal (hKernelIdeal := Cert.KernelIdeal.Gen.facts) := fun m ρ _ =>
  frame (F := Ideal) m ρ

theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

end Cert.Exchange

end
-- ==== Proof.Quotient.lean ====
/-
# `Quotient`: rows of extended reals

The row of a result is cut in two halves. Its maximum is the greater of the halves' maxima, its sum the
sum of the halves' sums, and where every element is a real number the sum of the exponentials is not zero,
so that multiplying by the reciprocal of the sum is dividing by it.
-/
module

public import Idealize.ShloMosaic.PureOps.Ideal
public import Idealize.ShloMosaic.PureOps.IdealRules

@[expose] public section

noncomputable section

namespace Cert.Exchange

open Idealize.ShloMosaic

/-- The value is a real number. -/
def IsReal (x : EReal) : Prop := ∃ r : ℝ, x = (r : EReal)

theorem IsReal.of_abs_lt {x : EReal} (h : max x (-x) < ⊤) : IsReal x := by
  induction x using EReal.rec with
  | bot => rw [EReal.neg_bot] at h; exact absurd h (by simp)
  | top => exact absurd h (by simp)
  | coe r => exact ⟨r, rfl⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a t ha ih => rw [Finset.sum_insert ha]; exact (h a).add ih

theorem exp_nonneg (x : EReal) : 0 ≤ Ideal.exp x := by
  induction x using EReal.rec with
  | bot => exact le_refl _
  | top => exact le_top
  | coe r => rw [Ideal.exp_coe]; exact EReal.coe_nonneg.mpr (Real.exp_pos r).le

/-- Multiplying by the reciprocal is dividing, but by zero. -/
theorem mul_div_one {e S : EReal} (h : S ≠ 0) : e * Ideal.div 1 S = Ideal.div e S := by
  unfold Ideal.div
  rw [if_neg h, if_neg h, one_mul]

/-- The greatest element of a row, from below every element. -/
def rowMax {n : ℕ} (f : Fin n → EReal) : EReal := Finset.univ.fold max ⊥ f

theorem rowMax_eq_sup {n : ℕ} (f : Fin n → EReal) : rowMax f = Finset.univ.sup f := rfl

theorem le_rowMax {n : ℕ} (f : Fin n → EReal) (i : Fin n) : f i ≤ rowMax f := by
  rw [rowMax_eq_sup]; exact Finset.le_sup (Finset.mem_univ i)

theorem rowMax_le {n : ℕ} (f : Fin n → EReal) (b : EReal) (h : ∀ i, f i ≤ b) : rowMax f ≤ b := by
  rw [rowMax_eq_sup]; exact Finset.sup_le fun i _ => h i

theorem rowMax_attained {n : ℕ} [NeZero n] (f : Fin n → EReal) : ∃ i, rowMax f = f i := by
  obtain ⟨i, _, h⟩ := Finset.exists_mem_eq_sup Finset.univ ⟨0, Finset.mem_univ _⟩ f
  exact ⟨i, h⟩

/-- Column `q` of half `b`. -/
def col (b : Fin 2) (q : Fin 8192) : Fin 16384 := ⟨8192 * b.val + q.val, by have := b.isLt; have := q.isLt; omega⟩

theorem col_cases (j : Fin 16384) : ∃ b q, j = col b q :=
  ⟨⟨j.val / 8192, by have := j.isLt; omega⟩, ⟨j.val % 8192, Nat.mod_lt _ (by decide)⟩, Fin.ext (Nat.div_add_mod _ _).symm⟩

/-- The other half. -/
def other (b : Fin 2) : Fin 2 := ⟨1 - b.val, by omega⟩

theorem eq_or_other (b b' : Fin 2) : b' = b ∨ b' = other b := by revert b b'; decide

theorem rowMax_halves (f : Fin 16384 → EReal) (b : Fin 2) :
    max (rowMax fun q => f (col b q)) (rowMax fun q => f (col (other b) q)) = rowMax f := by
  apply le_antisymm
  · exact max_le (rowMax_le _ _ fun q => le_rowMax f _) (rowMax_le _ _ fun q => le_rowMax f _)
  · refine rowMax_le _ _ fun j => ?_
    obtain ⟨b', q, rfl⟩ := col_cases j
    rcases eq_or_other b b' with rfl | rfl
    · exact le_max_of_le_left (le_rowMax (fun q => f (col b' q)) q)
    · exact le_max_of_le_right (le_rowMax (fun q => f (col (other b) q)) q)

theorem sum_halves (f : Fin 16384 → EReal) (b : Fin 2) :
    (∑ q, f (col b q)) + (∑ q, f (col (other b) q)) = ∑ j, f j := by
  have h : ∑ j, f j = (∑ q, f (col 0 q)) + (∑ q, f (col 1 q)) := by
    refine (Fin.sum_univ_add (a := 8192) (b := 8192) f).trans (congrArg₂ (· + ·) ?_ ?_)
    · exact Finset.sum_congr rfl fun q _ => congrArg f (Fin.ext (by show q.val = 8192 * 0 + q.val; omega))
    · exact Finset.sum_congr rfl fun q _ => congrArg f (Fin.ext (by show 8192 + q.val = 8192 * 1 + q.val; omega))
  rw [h]
  rcases eq_or_other 0 b with rfl | rfl
  · rfl
  · exact add_comm _ _

/-- The exponentials of a row of real numbers less their greatest do not sum to zero. -/
theorem sum_exp_ne_zero {n : ℕ} [NeZero n] (f : Fin n → EReal) (hf : ∀ i, IsReal (f i)) :
    (∑ i, Ideal.exp (f i - rowMax f)) ≠ 0 := by
  obtain ⟨i, hi⟩ := rowMax_attained f
  have h1 : Ideal.exp (f i - rowMax f) = 1 := by
    rw [hi]
    obtain ⟨r, hr⟩ := hf i
    rw [hr, ← EReal.coe_sub, sub_self, Ideal.exp_coe, Real.exp_zero, EReal.coe_one]
  have h2 := Finset.single_le_sum (f := fun i => Ideal.exp (f i - rowMax f)) (fun j _ => exp_nonneg _) (Finset.mem_univ i)
  intro h0
  rw [h0] at h2
  simp only [h1] at h2
  exact absurd h2 (by norm_num)

/-- One element: what a device computes from the two halves is the quotient over the whole row. -/
theorem quotient_halves (f : Fin 16384 → EReal) (hf : ∀ i, IsReal (f i)) (b : Fin 2) (l M : EReal)
    (hM : M = max (rowMax fun q => f (col b q)) (rowMax fun q => f (col (other b) q))) :
    Ideal.exp (l - M) * Ideal.div 1 ((∑ q, Ideal.exp (f (col b q) - M)) + (∑ q, Ideal.exp (f (col (other b) q) - M)))
      = Ideal.div (Ideal.exp (l - rowMax f)) (∑ j, Ideal.exp (f j - rowMax f)) := by
  rw [hM, rowMax_halves, sum_halves (fun j => Ideal.exp (f j - rowMax f)) b]
  exact mul_div_one (sum_exp_ne_zero f hf)

end Cert.Exchange

end
-- ==== Proof.Value.lean ====
/-
# `Value`: what each device holds, at the extended reals

A device's logits are the products of the rows of `x` with the columns of its own block of `W`.
-/
module

public import proofs.«01_k».proof.Proof.Close
public import proofs.«01_k».proof.Proof.Quotient
public import Idealize.ShloMosaic.Lib.Pointwise

@[expose] public section

set_option maxRecDepth 16384

noncomputable section

namespace Cert.Exchange

open Cert.KernelIdeal Cert.KernelIdeal.Gen
open Idealize.ShloMosaic
open Idealize.ShloMosaic.TcCoe

/-! ## The constants -/

theorem neg_inf_bf16 : Ideal.ofBits .bf16 0xFF80#16 = ⊥ := by simp [Ideal.ofBits, Ideal.ieee]
theorem neg_inf_f32 : Ideal.ofBits .f32 0xFF800000#32 = ⊥ := by simp [Ideal.ofBits, Ideal.ieee]
theorem inf_bf16 : Ideal.ofBits .bf16 0x7F80#16 = ⊤ := by simp [Ideal.ofBits, Ideal.ieee]

/-! ## The payloads at an index -/

theorem product_apply (X : FVec Ideal S512x4096 .bf16) (Y : FVec Ideal S4096x256 .bf16) (r : Fin 512) (q : Fin 256) :
    k0_pay36 (F := Ideal) X Y (ix3 0 r q) = ∑ t : Fin 4096, X (ix2 r t) * Y (ix2 t q) := by
  pointwise [k0_pay36]

theorem max_apply (a b : FVec Ideal S1x128x8192 .bf16) (r : Fin 128) :
    k0_pay3 (F := Ideal) a b (ix2 r 0) = max (rowMax fun q : Fin 8192 => a (ix3 0 r q)) (rowMax fun q : Fin 8192 => b (ix3 0 r q)) := by
  pointwise [k0_pay3, k0_pay1, k0_pay2]
  rw [neg_inf_bf16]
  rfl

theorem own_apply (a b : FVec Ideal S1x128x8192 .bf16) (r : Fin 128) (q : Fin 8192) :
    k0_pay4 (F := Ideal) a b (ix2 r q) = Ideal.exp (a (ix3 0 r q) - k0_pay3 (F := Ideal) a b (ix2 r 0)) := by
  pointwise [k0_pay4, k0_pay1]

theorem partner_apply (a b : FVec Ideal S1x128x8192 .bf16) (r : Fin 128) (q : Fin 8192) :
    k0_pay6 (F := Ideal) (k0_pay5 a b) (ix2 r q) = Ideal.exp (b (ix3 0 r q) - k0_pay3 (F := Ideal) a b (ix2 r 0)) := by
  pointwise [k0_pay6, k0_pay5, k0_pay2]

theorem recip_apply (u v : FVec Ideal S128x8192 .f32) (r : Fin 128) :
    k0_pay7 (F := Ideal) u v (ix2 r 0) = Ideal.div 1 ((∑ q : Fin 8192, u (ix2 r q)) + (∑ q : Fin 8192, v (ix2 r q))) := by
  pointwise [k0_pay7]

theorem scaleA_apply (u v w : FVec Ideal S128x8192 .f32) (r : Fin 128) (q : Fin 8192) :
    k0_pay8 (F := Ideal) u v w (ix2 r q) = w (ix2 r q) * k0_pay7 (F := Ideal) u v (ix2 r 0) := by
  pointwise [k0_pay8]

theorem scaleB_apply (u v w : FVec Ideal S128x8192 .f32) (r : Fin 128) (q : Fin 8192) :
    k0_pay9 (F := Ideal) u v w (ix2 r q) = w (ix2 r q) * k0_pay7 (F := Ideal) u v (ix2 r 0) := by
  pointwise [k0_pay9]

/-! ## The windows' blocks -/

theorem index_x : ∀ t : Fin grid0.N, win0_0.index t 0 = min (t.val / 32) 3 ∧ win0_0.index t 1 = 0 := by decide +kernel
theorem index_w : ∀ t : Fin grid0.N, t.val < 128 → win0_1.index t 0 = 0 ∧ win0_1.index t 1 = t.val % 32 := by decide +kernel

variable (m : (ℓ : Loc nD τ sig) → Buf (Elt Ideal) ℓ)

/-- The arguments as device `c` holds them. -/
def xOf (c : Dev nD) : FVec Ideal S2048x4096 .bf16 := m ((c : Thread nD τ).loc main_arg0)
def wOf (c : Dev nD) : FVec Ideal S4096x8192 .bf16 := m ((c : Thread nD τ).loc main_arg1)

theorem block_x (c : Dev nD) (k : ℕ) (hk : k < 4) (t : Fin cfg0.N) (ht : t.val / 32 = k) (r : Fin 512) (l : Fin 4096) :
    (iblk m c 0 t : FVec Ideal S512x4096 .bf16) (ix2 r l)
      = xOf m c (ix2 ⟨512 * k + r.val, by have := r.isLt; omega⟩ l) := by
  have hi := index_x t
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * k + r.val; rw [hi.1]; omega
  | ⟨1, _⟩ => show win0_0.index t 1 * 4096 + 1 * l.val = l.val; rw [hi.2]; omega

theorem block_w (c : Dev nD) (n : ℕ) (hn : n < 32) (t : Fin cfg0.N) (h128 : t.val < 128) (ht : t.val % 32 = n) (l : Fin 4096) (q : Fin 256) :
    (iblk m c 1 t : FVec Ideal S4096x256 .bf16) (ix2 l q)
      = wOf m c (ix2 l ⟨256 * n + q.val, by have := q.isLt; omega⟩) := by
  have hi := index_w t h128
  unfold iblk
  rw [View.read_apply]
  show V m c main_arg1 _ = m (c.tc.loc main_arg1) _
  unfold V
  congr 1
  funext a
  apply Fin.ext
  match a with
  | ⟨0, _⟩ => show win0_1.index t 0 * 4096 + 1 * l.val = l.val; rw [hi.1]; omega
  | ⟨1, _⟩ => show win0_1.index t 1 * 256 + 1 * q.val = 256 * n + q.val; rw [hi.2]; omega

/-! ## The logits -/

theorem logits (c : Dev nD) (k : ℕ) (hk : k < 4) (r : Fin 512) (q : Fin 8192) :
    LBv m c k r q.val = ∑ t : Fin 4096, xOf m c (ix2 ⟨512 * k + r.val, by have := r.isLt; omega⟩ t) * wOf m c (ix2 t q) := by
  have hq := q.isLt
  have hv : (pt (32 * k + q.val / 256)).val = 32 * k + q.val / 256 := Nat.mod_eq_of_lt (by omega)
  have hx : tix r q.val = ix3 0 r ⟨q.val % 256, Nat.mod_lt _ (by decide)⟩ := by
    funext a
    match a with
    | ⟨0, _⟩ => rfl
    | ⟨1, _⟩ => rfl
    | ⟨2, _⟩ => rfl
  unfold LBv payT
  rw [hx]
  refine (product_apply _ _ _ _).trans (Finset.sum_congr rfl fun t _ => ?_)
  refine congrArg₂ (· * ·) (block_x m c k hk _ (by rw [hv]; omega) r t)
    ((block_w m c (q.val / 256) (by omega) _ (by rw [hv]; omega) (by rw [hv]; omega) t _).trans ?_)
  congr 2
  exact Fin.ext (Nat.div_add_mod _ _)

end Cert.Exchange

end
-- ==== Proof.Softness.lean ====
/-
# `Softness`: the reference at an index

The reference's result is the quotient of the exponentials by their sum, row by row.
-/
module

public import proofs.«01_k».proof.Proof.Quotient
public import proofs.«01_k».proof.Proof.Gen.ReferenceIdeal.Run
public import Idealize.ShloMosaic.Lib.Pointwise

@[expose] public section

set_option maxRecDepth 16384

noncomputable section

namespace Cert.Exchange

open Cert.ReferenceIdeal Cert.ReferenceIdeal.Gen
open Idealize.ShloMosaic

/-- The whole product, by row and column. -/
def logit (x : FVec Ideal S2048x4096 .bf16) (w : FVec Ideal S4096x16384 .bf16) (i : Fin 2048) (j : Fin 16384) : EReal :=
  ∑ t : Fin 4096, x (ix2 i t) * w (ix2 t j)

/-- The reference's product. -/
def dotR (x : FVec Ideal S2048x4096 .bf16) (w : FVec Ideal S4096x16384 .bf16) : FVec Ideal S2048x16384 .f32 :=
  Host.dotGeneral dot_S2048x4096_S4096x16384_S2048x16384_1_0_0_1_n_n none (extf .f32 x bitsLt_bf16_f32) (extf .f32 w bitsLt_bf16_f32)

/-- Each row's greatest element, spread over the row. -/
def maxR (D : FVec Ideal S2048x16384 .f32) : FVec Ideal S2048x16384 .f32 :=
  broadcastInDim S2048x16384 ![0, 1] bcast_S2048x1_S2048x16384_0_1 (broadcastInDim S2048x1 ![0] bcast_S2048_S2048x1_0
    (Host.reduce FloatOps.maximumf D (constant S_ .f32 0xFF800000#32) reducesTo_S2048x16384_S2048_d1 h_S_))

/-- Each row's sum, spread over the row. -/
def sumR (E : FVec Ideal S2048x16384 .f32) : FVec Ideal S2048x16384 .f32 :=
  broadcastInDim S2048x16384 ![0, 1] bcast_S2048x1_S2048x16384_0_1 (broadcastInDim S2048x1 ![0] bcast_S2048_S2048x1_0
    (Host.reduceAdd E (constant S_ .f32 0x00000000#32) reducesTo_S2048x16384_S2048_d1 h_S_))

/-- The reference's result. -/
def softR (D : FVec Ideal S2048x16384 .f32) : FVec Ideal S2048x16384 .f32 :=
  Host.divf (Host.exp (subf D (maxR D))) (sumR (Host.exp (subf D (maxR D))))

theorem dotR_apply (x : FVec Ideal S2048x4096 .bf16) (w : FVec Ideal S4096x16384 .bf16) (i : Fin 2048) (j : Fin 16384) :
    dotR x w (ix2 i j) = logit x w i j := by
  pointwise [dotR, logit]

theorem bot_f32 : Ideal.ofBits .f32 0xFF800000#32 = ⊥ := by simp [Ideal.ofBits, Ideal.ieee]

theorem maxR_apply (D : FVec Ideal S2048x16384 .f32) (i : Fin 2048) (j : Fin 16384) :
    maxR D (ix2 i j) = rowMax fun q : Fin 16384 => D (ix2 i q) := by
  pointwise [maxR]
  rw [bot_f32]
  rfl

theorem sumR_apply (E : FVec Ideal S2048x16384 .f32) (i : Fin 2048) (j : Fin 16384) :
    sumR E (ix2 i j) = ∑ q : Fin 16384, E (ix2 i q) := by
  pointwise [sumR]

theorem expR_apply (D : FVec Ideal S2048x16384 .f32) (i : Fin 2048) (j : Fin 16384) :
    Host.exp (subf D (maxR D)) (ix2 i j) = Ideal.exp (D (ix2 i j) - rowMax fun q : Fin 16384 => D (ix2 i q)) := by
  rw [← maxR_apply D i j]
  rfl

theorem quot_apply (a b : FVec Ideal S2048x16384 .f32) (j : S2048x16384.Idx) : Host.divf a b j = Ideal.div (a j) (b j) := rfl

theorem softR_apply (D : FVec Ideal S2048x16384 .f32) (i : Fin 2048) (j : Fin 16384) :
    softR D (ix2 i j) = Ideal.div (Ideal.exp (D (ix2 i j) - rowMax fun q : Fin 16384 => D (ix2 i q)))
      (∑ q : Fin 16384, Ideal.exp (D (ix2 i q) - rowMax fun q' : Fin 16384 => D (ix2 i q'))) := by
  unfold softR
  rw [quot_apply, sumR_apply, expR_apply]
  exact congrArg _ (Finset.sum_congr rfl fun q _ => expR_apply D i q)

end Cert.Exchange

end
-- ==== Proof.Equation.lean ====
/-
# `Equation`: every device's result is the reference's

Device by device and element by element, for finite arguments.
-/
module

public import proofs.«01_k».proof.Proof.Value
public import proofs.«01_k».proof.Proof.Softness
public import Idealize.ShloMosaic.Lib.Layout

@[expose] public section

set_option maxRecDepth 16384

noncomputable section

namespace Cert.Exchange

open Cert.KernelIdeal Cert.KernelIdeal.Gen
open Idealize.ShloMosaic
open Idealize.ShloMosaic.TcCoe

/-- Which half of the columns a device holds. -/
def hf (c : Dev nD) : Fin 2 := ⟨half c, half_lt c⟩

theorem hf_peer (c : Dev nD) : hf (peer c) = other (hf c) := Fin.ext (half_peer c)

/-! ## A device's block of `W` -/

abbrev blockOf (W : FVec Ideal Cert.ReferenceIdeal.S4096x16384 .bf16) (c : Dev nD) : FVec Ideal S4096x8192 .bf16 :=
  Layout.blockN ⟨2, ![4096, 8192]⟩ ⟨2, ![4096, 16384]⟩ (Layout.meshBlock [2, 2, 4] ![[], [1]] c) W

theorem lin_half : ∀ c : Dev nD, Layout.meshLin [2, 2, 4] c.val [1] = half c := by decide +kernel

theorem blockOf_apply (W : FVec Ideal Cert.ReferenceIdeal.S4096x16384 .bf16) (c : Dev nD) (t : Fin 4096) (q : Fin 8192) :
    blockOf W c (ix2 t q) = W (ix2 t (col (hf c) q)) := by
  unfold blockOf
  rw [Layout.blockN_apply]
  congr 1
  funext a
  apply Fin.ext
  rw [Layout.TilesN.idx_val]
  match a with
  | ⟨0, _⟩ => show 0 * 4096 + t.val = t.val; omega
  | ⟨1, _⟩ => show Layout.meshLin [2, 2, 4] c.val [1] * 8192 + q.val = 8192 * half c + q.val; rw [lin_half]; omega

/-! ## The equation -/

section
variable (m : (ℓ : Loc nD τ sig) → Buf (Elt Ideal) ℓ)
  (X : FVec Ideal S2048x4096 .bf16) (W : FVec Ideal Cert.ReferenceIdeal.S4096x16384 .bf16)

theorem logits_whole (hX : ∀ c, xOf m c = X) (hW : ∀ c, wOf m c = blockOf W c) (c : Dev nD) (k : ℕ) (hk : k < 4) (r : Fin 512)
    (q : Fin 8192) (i : Fin 2048) (hi : i.val = 512 * k + r.val) : LBv m c k r q.val = logit X W i (col (hf c) q) := by
  rw [logits m c k hk r q]
  refine Finset.sum_congr rfl fun t _ => ?_
  rw [hX c, hW c, blockOf_apply]
  congr 3
  exact Fin.ext hi.symm

theorem local_whole (hX : ∀ c, xOf m c = X) (hW : ∀ c, wOf m c = blockOf W c) (c : Dev nD) (k : ℕ) (hk : k < 4) (s : Fin 4)
    (r : Fin 128) (q : Fin 8192) (i : Fin 2048) (hi : i.val = 512 * k + 128 * s.val + r.val) :
    locv m c k s (ix3 0 r q) = logit X W i (col (hf c) q) :=
  logits_whole m X W hX hW c k hk ⟨128 * s.val + r.val, by have := s.isLt; have := r.isLt; omega⟩ q i
    (hi.trans (Nat.add_assoc _ _ _))

variable (hX : ∀ c, xOf m c = X) (hW : ∀ c, wOf m c = blockOf W c) (c : Dev nD) (k : ℕ) (hk : k < 4) (s : Fin 4)
  (r : Fin 128) (i : Fin 2048) (hi : i.val = 512 * k + 128 * s.val + r.val)
include hX hW hk hi

theorem greatest : k0_pay3 (F := Ideal) (locv m c k s) (locv m (peer c) k s) (ix2 r 0)
    = max (rowMax fun q => logit X W i (col (hf c) q)) (rowMax fun q => logit X W i (col (other (hf c)) q)) := by
  rw [max_apply]
  refine congrArg₂ max (congrArg rowMax (funext fun q => ?_)) (congrArg rowMax (funext fun q => ?_))
  · exact local_whole m X W hX hW c k hk s r q i hi
  · rw [← hf_peer]; exact local_whole m X W hX hW (peer c) k hk s r q i hi

theorem own_whole (q : Fin 8192) : eA m c k s (ix2 r q)
    = Ideal.exp (logit X W i (col (hf c) q) - k0_pay3 (F := Ideal) (locv m c k s) (locv m (peer c) k s) (ix2 r 0)) := by
  unfold eA
  rw [own_apply, local_whole m X W hX hW c k hk s r q i hi]

theorem partner_whole (q : Fin 8192) : eB m c k s (ix2 r q)
    = Ideal.exp (logit X W i (col (other (hf c)) q) - k0_pay3 (F := Ideal) (locv m c k s) (locv m (peer c) k s) (ix2 r 0)) := by
  unfold eB
  rw [partner_apply, local_whole m X W hX hW (peer c) k hk s r q i hi, hf_peer]

theorem recip_whole : k0_pay7 (F := Ideal) (eA m c k s) (eB m c k s) (ix2 r 0)
    = Ideal.div 1 ((∑ q : Fin 8192, Ideal.exp (logit X W i (col (hf c) q) - k0_pay3 (F := Ideal) (locv m c k s) (locv m (peer c) k s) (ix2 r 0)))
      + (∑ q : Fin 8192, Ideal.exp (logit X W i (col (other (hf c)) q) - k0_pay3 (F := Ideal) (locv m c k s) (locv m (peer c) k s) (ix2 r 0)))) := by
  rw [recip_apply]
  refine congrArg (Ideal.div 1) (congrArg₂ (· + ·) (Finset.sum_congr rfl fun q _ => ?_) (Finset.sum_congr rfl fun q _ => ?_))
  · exact own_whole m X W hX hW c k hk s r i hi q
  · exact partner_whole m X W hX hW c k hk s r i hi q

variable (hR : ∀ j, IsReal (logit X W i j))
include hR

theorem result_own (q : Fin 8192) : paV m c k s (ix2 r q) = softR (dotR X W) (ix2 i (col (hf c) q)) := by
  unfold paV
  rw [scaleA_apply, own_whole m X W hX hW c k hk s r i hi q, recip_whole m X W hX hW c k hk s r i hi, softR_apply]
  simp only [dotR_apply]
  exact quotient_halves (logit X W i) hR (hf c) _ _ (greatest m X W hX hW c k hk s r i hi)

theorem result_partner (q : Fin 8192) : pbV m c k s (ix2 r q) = softR (dotR X W) (ix2 i (col (other (hf c)) q)) := by
  unfold pbV
  rw [scaleB_apply, partner_whole m X W hX hW c k hk s r i hi q, recip_whole m X W hX hW c k hk s r i hi, softR_apply]
  simp only [dotR_apply]
  exact quotient_halves (logit X W i) hR (hf c) _ _ (greatest m X W hX hW c k hk s r i hi)

end

theorem oix_col (r : ℕ) (b : Fin 2) (q : Fin 8192) : oix r (col b q).val = ix2 ⟨r % 128, Nat.mod_lt _ (by decide)⟩ q := by
  have hq := q.isLt
  funext a
  match a with
  | ⟨0, _⟩ => rfl
  | ⟨1, _⟩ => exact Fin.ext (show (8192 * b.val + q.val) % 8192 = q.val by omega)

theorem out_apply (m : (ℓ : Loc nD τ sig) → Buf (Elt Ideal) ℓ) (c : Dev nD) (i : Fin 2048) (n : Fin 16384) :
    OutF m c (ix2 i n) = if n.val / 8192 = half c then
      paV m c (i.val / 512) ⟨i.val / 128 % 4, Nat.mod_lt _ (by decide)⟩ (oix i.val n.val)
    else pbV m c (i.val / 512) ⟨i.val / 128 % 4, Nat.mod_lt _ (by decide)⟩ (oix i.val n.val) := rfl

/-- Every device's result is the reference's. -/
theorem result (m : (ℓ : Loc nD τ sig) → Buf (Elt Ideal) ℓ) (X : FVec Ideal S2048x4096 .bf16) (W : FVec Ideal Cert.ReferenceIdeal.S4096x16384 .bf16)
    (hX : ∀ c, xOf m c = X) (hW : ∀ c, wOf m c = blockOf W c) (hx : ∀ j, IsReal (X j)) (hw : ∀ j, IsReal (W j)) (c : Dev nD) :
    OutF m c = softR (dotR X W) := by
  suffices h : ∀ (i : Fin 2048) (n : Fin 16384), OutF m c (ix2 i n) = softR (dotR X W) (ix2 i n) by
    funext j
    rw [eq_ix2 j]
    exact h _ _
  intro i n
  obtain ⟨b, q, rfl⟩ := col_cases n
  have hi := i.isLt
  have hq := q.isLt
  have hR : ∀ n, IsReal (logit X W i n) := fun n => IsReal.sum _ _ fun t => (hx _).mul (hw _)
  have hk : i.val / 512 < 4 := by omega
  have hrow : i.val = 512 * (i.val / 512) + 128 * (i.val / 128 % 4) + i.val % 128 := by omega
  have hhalf : (col b q).val / 8192 = b.val := by show (8192 * b.val + q.val) / 8192 = b.val; omega
  rw [out_apply, hhalf, oix_col]
  rcases eq_or_other (hf c) b with rfl | rfl
  · rw [if_pos (show (hf c).val = half c from rfl)]
    exact result_own m X W hX hW c _ hk _ _ i hrow hR q
  · rw [if_neg (show ¬ (other (hf c)).val = half c by have := half_lt c; show 1 - half c ≠ half c; omega)]
    exact result_partner m X W hX hW c _ hk _ _ i hrow hR q

end Cert.Exchange

end
-- ==== Proof.Agree.lean ====
/-
# `Agree`: the claim of values

The precondition says that every argument is a real number. With it the two runs end at one value.
-/
module

public import proofs.«01_k».proof.Defs
public import proofs.«01_k».proof.Proof.Frames
public import proofs.«01_k».proof.Proof.Equation

@[expose] public section

set_option maxRecDepth 16384

noncomputable section

namespace Cert.Exchange

open Idealize.ShloMosaic Idealize.ShloMosaic.TcCoe Idealize.SL.Sem
open Cert.KernelIdeal Cert.KernelIdeal.Gen

instance facts_pre : Cert.Pre_finite_KernelIdeal.Facts := ⟨by decide, by decide⟩
instance facts_pre_ref : Cert.Pre_finite_ReferenceIdeal.Facts := ⟨by decide, by decide⟩

/-! ## What the precondition says -/

theorem real_of_bit {x : EReal} (h : Ideal.cmp .olt (max x (-x)) (Ideal.ofBits .bf16 0x7F80#16) = 1#1) : IsReal x := by
  rw [inf_bf16] at h
  by_cases hlt : max x (-x) < ⊤
  · exact IsReal.of_abs_lt hlt
  · simp [Ideal.cmp, hlt] at h

variable (m : (ℓ : Loc nD τ sig) → Buf (Elt Ideal) ℓ)

theorem real_x (h : Cert.Pre_KernelIdeal_finite_KernelIdeal m) (c : Dev nD) (j : S2048x4096.Idx) : IsReal (xOf m c j) :=
  real_of_bit (congrFun (h c).1 j)

theorem real_w (h : Cert.Pre_KernelIdeal_finite_KernelIdeal m) (c : Dev nD) (j : S4096x8192.Idx) : IsReal (wOf m c j) :=
  real_of_bit (congrFun (h c).2 j)

/-- Every element of `W` is in some device's block. -/
theorem real_whole (W : FVec Ideal Cert.ReferenceIdeal.S4096x16384 .bf16) (hW : ∀ c, wOf m c = blockOf W c)
    (h : Cert.Pre_KernelIdeal_finite_KernelIdeal m) (j) : IsReal (W j) := by
  suffices hall : ∀ (t : Fin 4096) (n : Fin 16384), IsReal (W (ix2 t n)) by
    rw [eq_ix2 j]
    exact hall _ _
  intro t n
  obtain ⟨b, q, rfl⟩ := col_cases n
  have hc : ∀ b, ∃ c : Dev nD, hf c = b := by decide +kernel
  obtain ⟨c, rfl⟩ := hc b
  rw [← blockOf_apply W c t q, ← hW c]
  exact real_w m h c _

/-! ## The claims that take the precondition -/

theorem frame_ideal_pre : Cert.quiescent_KernelIdeal_pre_finite_KernelIdeal := fun m g _ => frame_ideal m g trivial
theorem frame_reference_pre : Cert.quiescent_ReferenceIdeal_pre_finite_ReferenceIdeal := fun m g _ => frame_reference m g trivial

theorem agree : Cert.algebraic_KernelIdeal_ReferenceIdeal_pre_finite_KernelIdeal := by
  intro m g m' g' hpre hin
  have hX : ∀ c, xOf m c = m' (((0 : Dev Cert.ReferenceIdeal.nD).tc : Thread Cert.ReferenceIdeal.nD Cert.ReferenceIdeal.τ).loc Cert.ReferenceIdeal.main_arg0) :=
    fun c => (hin c).1
  have hW : ∀ c, wOf m c = blockOf (m' (((0 : Dev Cert.ReferenceIdeal.nD).tc : Thread Cert.ReferenceIdeal.nD Cert.ReferenceIdeal.τ).loc Cert.ReferenceIdeal.main_arg1)) c :=
    fun c => (hin c).2
  refine ⟨softR (dotR (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))), ?_, ?_⟩
  · refine (θ_run _ _ _).mono (fun r h c => ⟨(h.1 c).1.trans ?_, (h.1 c).2⟩) (run (F := Ideal) m g)
    exact result m _ _ hX hW (fun j => by rw [← hX 0]; exact real_x m hpre 0 j) (real_whole m _ hW hpre) c
  · exact (θ_run _ _ _).mono (fun r h => h 0) (Cert.ReferenceIdeal.Value.run (F := Ideal) m' g')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Exchange.facts_pre, Cert.Exchange.facts_pre_ref,
  Cert.Exchange.frame_kernel, Cert.Exchange.frame_ideal, Cert.Exchange.frame_ideal_pre, Cert.Exchange.frame_reference,
  Cert.Exchange.frame_reference_pre, trivial, Cert.Exchange.agree⟩

end Cert.Proof

end
